-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x1024 : Shape := ⟨3, ![4, 8192, 1024]⟩
abbrev S64x1024 : Shape := ⟨2, ![64, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S4x8192x1024 .f32) (main_arg1 : FVec F S64x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S4x8192x1024 : Shape := ⟨3, ![4, 8192, 1024]⟩
abbrev S64x1024 : Shape := ⟨2, ![64, 1024]⟩
abbrev S4x1x8192 : Shape := ⟨3, ![4, 1, 8192]⟩
abbrev S4x64x1 : Shape := ⟨3, ![4, 64, 1]⟩
abbrev S1x4096x1024 : Shape := ⟨3, ![1, 4096, 1024]⟩
abbrev S1x1x4096 : Shape := ⟨3, ![1, 1, 4096]⟩
abbrev S1x64x1 : Shape := ⟨3, ![1, 64, 1]⟩
abbrev S4096x1024 : Shape := ⟨2, ![4096, 1024]⟩
abbrev S64x4096 : Shape := ⟨2, ![64, 4096]⟩
abbrev S4096 : Shape := ⟨1, ![4096]⟩
abbrev S1x4096 : Shape := ⟨2, ![1, 4096]⟩
abbrev S4096x1 : Shape := ⟨2, ![4096, 1]⟩
abbrev S64x1 : Shape := ⟨2, ![64, 1]⟩
abbrev S32768 : Shape := ⟨1, ![32768]⟩
abbrev S256 : Shape := ⟨1, ![256]⟩
abbrev S32x16 : Shape := ⟨2, ![32, 16]⟩
abbrev S1024 : Shape := ⟨1, ![1024]⟩
abbrev S64 : Shape := ⟨1, ![64]⟩
abbrev S16 : Shape := ⟨1, ![16]⟩
abbrev S_ : Shape := ⟨0, ![]⟩
abbrev S1x16 : Shape := ⟨2, ![1, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩
abbrev S4x8192 : Shape := ⟨2, ![4, 8192]⟩
abbrev S4x8192x1 : Shape := ⟨3, ![4, 8192, 1]⟩
abbrev S4x8192x2 : Shape := ⟨3, ![4, 8192, 2]⟩

abbrev nBuf : Table → Nat
  | .hbm => 23
  | .local .tc .vmem => 15
  | .local .scVector .vmem => 4
  | _ => 0

abbrev bufTy : (tb : Table) → Fin (nBuf tb) → BufTy
  | .hbm, ⟨0, _⟩ => ⟨S4x8192x1024, .f32⟩
  | .hbm, ⟨1, _⟩ => ⟨S64x1024, .f32⟩
  | .hbm, ⟨2, _⟩ => ⟨S4x1x8192, .i32⟩
  | .hbm, ⟨3, _⟩ => ⟨S4x1x8192, .i32⟩
  | .hbm, ⟨4, _⟩ => ⟨S4x1x8192, .f32⟩
  | .hbm, ⟨5, _⟩ => ⟨S4x1x8192, .f32⟩
  | .hbm, ⟨6, _⟩ => ⟨S4x64x1, .f32⟩
  | .hbm, ⟨7, _⟩ => ⟨S32768, .i32⟩
  | .hbm, ⟨8, _⟩ => ⟨S32768, .i32⟩
  | .hbm, ⟨9, _⟩ => ⟨S256, .f32⟩
  | .hbm, ⟨10, _⟩ => ⟨S32x16, .f32⟩
  | .hbm, ⟨11, _⟩ => ⟨S1x1, .f32⟩
  | .hbm, ⟨12, _⟩ => ⟨S_, .f32⟩
  | .hbm, ⟨13, _⟩ => ⟨S4x8192, .i32⟩
  | .hbm, ⟨14, _⟩ => ⟨S4x8192, .i32⟩
  | .hbm, ⟨15, _⟩ => ⟨S4x8192x1, .i32⟩
  | .hbm, ⟨16, _⟩ => ⟨S4x8192x1, .i32⟩
  | .hbm, ⟨17, _⟩ => ⟨S4x8192x2, .i32⟩
  | .hbm, ⟨18, _⟩ => ⟨S4x8192, .f32⟩
  | .hbm, ⟨19, _⟩ => ⟨S4x8192, .f32⟩
  | .hbm, ⟨20, _⟩ => ⟨S4x8192x1, .f32⟩
  | .hbm, ⟨21, _⟩ => ⟨S4x8192x1, .f32⟩
  | .hbm, ⟨22, _⟩ => ⟨S4x8192x2, .f32⟩
  | .local .tc .vmem, ⟨0, _⟩ => ⟨S1x4096x1024, .f32⟩
  | .local .tc .vmem, ⟨1, _⟩ => ⟨S1x4096x1024, .f32⟩
  | .local .tc .vmem, ⟨2, _⟩ => ⟨S64x1024, .f32⟩
  | .local .tc .vmem, ⟨3, _⟩ => ⟨S1x1x4096, .i32⟩
  | .local .tc .vmem, ⟨4, _⟩ => ⟨S1x1x4096, .i32⟩
  | .local .tc .vmem, ⟨5, _⟩ => ⟨S1x1x4096, .i32⟩
  | .local .tc .vmem, ⟨6, _⟩ => ⟨S1x1x4096, .i32⟩
  | .local .tc .vmem, ⟨7, _⟩ => ⟨S1x1x4096, .f32⟩
  | .local .tc .vmem, ⟨8, _⟩ => ⟨S1x1x4096, .f32⟩
  | .local .tc .vmem, ⟨9, _⟩ => ⟨S1x1x4096, .f32⟩
  | .local .tc .vmem, ⟨10, _⟩ => ⟨S1x1x4096, .f32⟩
  | .local .tc .vmem, ⟨11, _⟩ => ⟨S1x64x1, .f32⟩
  | .local .tc .vmem, ⟨12, _⟩ => ⟨S1x64x1, .f32⟩
  | .local .tc .vmem, ⟨13, _⟩ => ⟨S32x16, .f32⟩
  | .local .tc .vmem, ⟨14, _⟩ => ⟨S1x1, .f32⟩
  | .local .scVector .vmem, ⟨0, _⟩ => ⟨S1024, .i32⟩
  | .local .scVector .vmem, ⟨1, _⟩ => ⟨S64, .f32⟩
  | .local .scVector .vmem, ⟨2, _⟩ => ⟨S64, .f32⟩
  | .local .scVector .vmem, ⟨3, _⟩ => ⟨S16, .f32⟩
  | _, _ => ⟨S4x8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev main_v4_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc2_stg0_0 : Ref sig .tc := ⟨.vmem, 13, rfl⟩
abbrev cc2_stg1_0 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc2_sem0_0 : DmaSem sig := 17
abbrev cc2_sem1_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8192_i32 : BitVec 32 := 8192#32
  let c0_i32_1 : BitVec 32 := 0#32
  let v9 : BitVec 1 := Scalar.cmpi .sgt c8192_i32 c0_i32_1
  let v10 : BitVec 32 := Scalar.extui v9
  let c0_i32_2 : BitVec 32 := 0#32
  let v11 : BitVec 1 := Scalar.cmpi .slt c8192_i32 c0_i32_2
  let v12 : BitVec 32 := Scalar.extui v11
  let v13 : BitVec 32 := Scalar.subi v10 v12
  let v14 : BitVec 1 := Scalar.cmpi .ne v8 v13
  let v15 : BitVec 32 := Scalar.remsi v2 c8192_i32
  let c0_i32_3 : BitVec 32 := 0#32
  let v16 : BitVec 1 := Scalar.cmpi .ne v15 c0_i32_3
  let v17 : BitVec 1 := Scalar.andi v14 v16
  let v3 : BitVec 32 := Scalar.divsi v2 c8192_i32
  let c1_i32 : BitVec 32 := 1#32
  let v18 : BitVec 32 := Scalar.subi v3 c1_i32
  let v19 : BitVec 32 := Scalar.select v17 v18 v3
  let c64_i32 : BitVec 32 := 64#32
  let v20 : BitVec 32 := Scalar.muli v19 c64_i32
  ![v20.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k1_t1_loop : Scf.Loop 32 :=
  let c0_i32_9 : BitVec 32 := 0#32
  let c64_i32_10 : BitVec 32 := 64#32
  let v30 : BitVec 32 := Scalar.addi c0_i32_9 c64_i32_10
  let c1_i32_11 : BitVec 32 := 1#32
  ⟨c0_i32_9, v30, c1_i32_11⟩
def k1_off3 (k1_t1 : Fin k1_t1_loop.trips) : Fin 1 → Nat :=
  let c0_i32_9 : BitVec 32 := 0#32
  let c1_i32_11 : BitVec 32 := 1#32
  let arg10 : BitVec 32 := Scf.iv c0_i32_9 c1_i32_11 k1_t1
  let c16_i32 : BitVec 32 := 16#32
  let v52 : BitVec 32 := Scalar.muli arg10 c16_i32
  let v53 : Index := Scalar.indexCast v52
  ![v53.toNat]

def k1_chk1 (v54 : IVec S16 32) : Prop :=
  (∀ a x, ((![v54] : Fin 1 → IVec S16 32) a x).toNat < S64.size a)
theorem k1_idx1_inb : ∀ (v54 : IVec S16 32) (k1_hw1 : k1_chk1 v54), ∀ a x, ((![v54] : Fin 1 → IVec S16 32) a x).toNat < S64.size a := fun v54 k1_hw1 => k1_hw1
@[reducible] def k1_t2_loop : Scf.Loop 32 :=
  let c0_i32_14 : BitVec 32 := 0#32
  let c64_i32_15 : BitVec 32 := 64#32
  let v32 : BitVec 32 := Scalar.addi c0_i32_14 c64_i32_15
  let c1_i32_16 : BitVec 32 := 1#32
  ⟨c0_i32_14, v32, c1_i32_16⟩
def k1_off4 (k1_t2 : Fin k1_t2_loop.trips) : Fin 1 → Nat :=
  let c0_i32_14 : BitVec 32 := 0#32
  let c1_i32_16 : BitVec 32 := 1#32
  let arg10 : BitVec 32 := Scf.iv c0_i32_14 c1_i32_16 k1_t2
  let c16_i32 : BitVec 32 := 16#32
  let v52 : BitVec 32 := Scalar.muli arg10 c16_i32
  let v53 : Index := Scalar.indexCast v52
  ![v53.toNat]

def k1_chk2 (v54 : IVec S16 32) : Prop :=
  (∀ a x, ((![v54] : Fin 1 → IVec S16 32) a x).toNat < S64.size a)
theorem k1_idx2_inb : ∀ (v54 : IVec S16 32) (k1_hw2 : k1_chk2 v54), ∀ a x, ((![v54] : Fin 1 → IVec S16 32) a x).toNat < S64.size a := fun v54 k1_hw2 => k1_hw2
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r3 : BitVec 32 := 0#32
  ![v1.toNat, 0]
abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S64x1024 : Shape := ⟨2, ![64, 1024]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩
abbrev S4x8192x2 : Shape := ⟨3, ![4, 8192, 2]⟩
abbrev S4x64 : Shape := ⟨2, ![4, 64]⟩
abbrev S4x8192x2x1 : Shape := ⟨4, ![4, 8192, 2, 1]⟩
abbrev S1x1x1x64 : Shape := ⟨4, ![1, 1, 1, 64]⟩
abbrev S4x8192x2x64 : Shape := ⟨4, ![4, 8192, 2, 64]⟩
abbrev S4 : Shape := ⟨1, ![4]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S4x8192x64, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x64, .f32⟩
  | .hbm, ⟨7, _⟩ => ⟨S4x8192x64, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S4x8192x1, .f32⟩
  | .hbm, ⟨14, _⟩ => ⟨S4x8192x64, .f32⟩
  | .hbm, ⟨15, _⟩ => ⟨S4x8192x64, .f32⟩
  | .hbm, ⟨16, _⟩ => ⟨S4x8192x64, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x64, .f32⟩
  | .hbm, ⟨21, _⟩ => ⟨S4x8192x64, .f32⟩
  | .hbm, ⟨22, _⟩ => ⟨S4x8192x2, .f32⟩
  | .hbm, ⟨23, _⟩ => ⟨S4x8192x2, .i32⟩
  | .hbm, ⟨24, _⟩ => ⟨S_, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x8192x2x1, .i32⟩
  | .hbm, ⟨30, _⟩ => ⟨S1x1x1x64, .i32⟩
  | .hbm, ⟨31, _⟩ => ⟨S4x8192x2x64, .i32⟩
  | .hbm, ⟨32, _⟩ => ⟨S4x8192x2x64, .i32⟩
  | .hbm, ⟨33, _⟩ => ⟨S4x8192x2x64, .i1⟩
  | .hbm, ⟨34, _⟩ => ⟨S4x8192x2x64, .f32⟩
  | .hbm, ⟨35, _⟩ => ⟨S_, .f32⟩
  | .hbm, ⟨36, _⟩ => ⟨S4x8192x64, .f32⟩
  | .hbm, ⟨37, _⟩ => ⟨S_, .f32⟩
  | .hbm, ⟨38, _⟩ => ⟨S4x8192x64, .f32⟩
  | .hbm, ⟨39, _⟩ => ⟨S4x8192x64, .f32⟩
  | .hbm, ⟨40, _⟩ => ⟨S_, .f32⟩
  | .hbm, ⟨41, _⟩ => ⟨S4x64, .f32⟩
  | .hbm, ⟨42, _⟩ => ⟨S_, .f32⟩
  | .hbm, ⟨43, _⟩ => ⟨S4x64, .f32⟩
  | .hbm, ⟨44, _⟩ => ⟨S4x64, .f32⟩
  | .hbm, ⟨45, _⟩ => ⟨S4x64, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_cst_12 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== Proof.Setup.lean ====
/-
  The program as the launch theorem of the SparseCore library sees it, and the ghost state of the proof.

  The kernel's @main runs a TensorCore region (the gate), one SparseCore call (the histogram and its partial sums), a
  second TensorCore region (the final sum) and host reshapes. The proof's ghost state is a product of three: the rounds of
  the SparseCore handshakes, the rounds of the two TensorCore pipelines, and the counters of the tiles' own copies.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Pipeline.FrameBody
public import Idealize.ShloMosaic.Lib.Pipeline.RegionArrays
public import Idealize.ShloMosaic.Lib.Ring
public import Idealize.ShloMosaic.Lib.Tactic
public import Idealize.ShloMosaic.Lib.WordCmp
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Moe

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- Rounds of the SparseCore handshakes. -/
abbrev UH : Type := URounds (GSem nD τ sig) ℕ
/-- Rounds of the TensorCore pipelines' staging cells. -/
abbrev UP : Type := URounds (GSem nD τ sig) Unit
/-- The two of them with the counters of local copies. -/
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

end Cert.Proof.Moe

end
-- ==== Proof.Hist.lean ====
/-
  What one vector subcore computes, as functions of the arrays it reads: the histogram of the expert numbers in its two
  chunks of 1024 tokens, and the products of its four histogram pieces with the batch's score sums, added up.
-/
module

public import proofs.«01_k».proof.Proof.Setup

@[expose] public section

noncomputable section

namespace Cert.Proof.Moe

open Cert.KernelIdeal Cert.KernelIdeal.Gen

open Idealize.ShloMosaic Idealize.ShloMosaic.TcCoe
open Idealize.ShloMosaic.SparseCore (S V T)

variable {F : FTy → Type} [FloatOps F]

/-! ## The subcore's memrefs -/

abbrev cV (L : grid1.Coords) : Fin τ.nSC := (L 0).castLE hcore1
abbrev jV (L : grid1.Coords) : Fin τ.nSub := (L 1).castLE hsub1

abbrev firstW : Memref sig .scVector .hbm S32768 .i32 := Memref.whole main_v1_scv
abbrev secondW : Memref sig .scVector .hbm S32768 .i32 := Memref.whole main_v2_scv
abbrev sumsW : Memref sig .scVector .hbm S256 .f32 := Memref.whole main_v3_scv
abbrev partsW : Memref sig .scVector .hbm S32x16 .f32 := Memref.whole main_v4_scv
abbrev idScr : Memref sig .scVector .vmem S1024 .i32 := Memref.whole cc1_scratch0
abbrev sumScr : Memref sig .scVector .vmem S64 .f32 := Memref.whole cc1_scratch1
abbrev histScr : Memref sig .scVector .vmem S64 .f32 := Memref.whole cc1_scratch2
abbrev outScr : Memref sig .scVector .vmem S16 .f32 := Memref.whole cc1_scratch3

/-- The subcore's chunk of the first choices, of the second choices, its batch's sums, and its row of the result. -/
abbrev firstChunk (L : grid1.Coords) : Memref sig .scVector .hbm S1024 .i32 :=
  firstW.slice (Rect.unit (s := S32768) (k1_off2 L) S1024.size (k1_off2_inb L)) (fun _ => rfl)
abbrev secondChunk (L : grid1.Coords) : Memref sig .scVector .hbm S1024 .i32 :=
  secondW.slice (Rect.unit (s := S32768) (k1_off2 L) S1024.size (k1_off2_inb L)) (fun _ => rfl)
abbrev sumsSlice (L : grid1.Coords) : Memref sig .scVector .hbm S64 .f32 :=
  sumsW.slice (Rect.unit (s := S256) (k1_off1 L) S64.size (k1_off1_inb L)) (fun _ => rfl)
abbrev rowSlice (L : grid1.Coords) : Memref sig .scVector .hbm S16 .f32 :=
  (partsW.slice (Rect.unit (s := S32x16) (k1_off5 L) S1x16.size (k1_off5_inb L)) (fun _ => rfl)).squeeze S16 squeezes_S1x16_S16

/-! ## The histogram -/

/-- The floating-point one each token adds. -/
def one16 : F .f32 := Scalar.ofBits .f32 0x3F800000#32

/-- Sixteen tokens added to the histogram, if their expert numbers are all below 64. -/
def histStep (h : Vec F S64 .f32) (v : Vec F S16 .i32) : Vec F S64 .f32 :=
  if hb : k1_chk1 v then storeIdx h ![v] (k1_pay5 one16) (fun _ => 1#1) true (k1_idx1_inb v hb) else h

/-- Window `n` of sixteen of a chunk: elements `16 n`, `16 n + 1`, … -/
def win16 (a : Vec F S1024 .i32) (n : ℕ) (h : n < 64) : Vec F S16 .i32 :=
  fun x => a (Shape.ofLane (d := S1024.size) ⟨16 * n + (x 0).val, by have := (x 0).isLt; change (x 0).val < 16 at this; show _ < 1024; omega⟩)

/-- The histogram after the first `n` windows of a chunk, from `h`. -/
def histUpTo (h : Vec F S64 .f32) (a : Vec F S1024 .i32) : ℕ → Vec F S64 .f32
  | 0 => h
  | n + 1 => if hn : n < 64 then histStep (histUpTo h a n) (win16 a n hn) else histUpTo h a n

/-- The empty histogram. -/
def hist0 : Vec F S64 .f32 := fun _ => Scalar.ofBits .f32 0x00000000#32

/-- Sixteen elements of a vector of 64, from `o` on. -/
def piece (o : ℕ) (h : o + 16 ≤ 64) (f : Vec F S64 .f32) : Vec F S16 .f32 :=
  fun x => f (Shape.ofLane (d := S64.size) ⟨o + (x 0).val, by have := (x 0).isLt; change (x 0).val < 16 at this; show _ < 64; omega⟩)

section

variable (A1 A2 : Vec F S32768 .i32) (A3 : Vec F S256 .f32)

/-- The subcore's first choices, its second choices and its batch's sums. -/
def ids1 (L : grid1.Coords) : Vec F S1024 .i32 := (firstChunk L).view.read (Elt F) A1
def ids2 (L : grid1.Coords) : Vec F S1024 .i32 := (secondChunk L).view.read (Elt F) A2
def sums (L : grid1.Coords) : Vec F S64 .f32 := (sumsSlice L).view.read (Elt F) A3

/-- The subcore's histogram. -/
def tileHist (L : grid1.Coords) : Vec F S64 .f32 := histUpTo (histUpTo hist0 (ids1 A1 L) 64) (ids2 A2 L) 64

/-- The sixteen partial sums the subcore leaves. -/
def tileOut (L : grid1.Coords) : Vec F S16 .f32 :=
  k1_pay6 (piece 0 (by omega) (tileHist A1 A2 L)) (piece 0 (by omega) (sums A3 L))
    (piece 16 (by omega) (tileHist A1 A2 L)) (piece 16 (by omega) (sums A3 L))
    (piece 32 (by omega) (tileHist A1 A2 L)) (piece 32 (by omega) (sums A3 L))
    (piece 48 (by omega) (tileHist A1 A2 L)) (piece 48 (by omega) (sums A3 L))

/-- The coordinates of the subcore that writes row `r`: SparseCore `r % 2`, subcore `r / 2`. -/
def rowCoords (r : Fin 32) : grid1.Coords := fun
  | 0 => ⟨r.val % 2, Nat.mod_lt _ (by decide)⟩
  | 1 => ⟨r.val / 2, by have := r.isLt; show _ < 16; omega⟩
  | ⟨_ + 2, h⟩ => absurd h (Nat.not_lt.2 (Nat.le_add_left _ _))

/-- All the partial sums: row `r` is that subcore's. -/
def scOut : Vec F S32x16 .f32 := fun j => tileOut A1 A2 A3 (rowCoords (j 0)) (Shape.ofLane (d := S16.size) (j 1))

end

end Cert.Proof.Moe

end
-- ==== Proof.Tile.lean ====
/-
  One vector subcore's run, with what it leaves.
-/
module

public import proofs.«01_k».proof.Proof.Hist
public import Idealize.ShloMosaic.Lib.VecWindow

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The arrays and the subcore's own cells -/

abbrev l1 (d : Dev nD) : Loc nD τ sig := (SparseCore.T d).loc main_v1
abbrev l2 (d : Dev nD) : Loc nD τ sig := (SparseCore.T d).loc main_v2
abbrev l3 (d : Dev nD) : Loc nD τ sig := (SparseCore.T d).loc main_v3
abbrev l4 (d : Dev nD) : Loc nD τ sig := (SparseCore.T d).loc main_v4

variable (d : Dev nD) (L : grid1.Coords)

abbrev vt : Thread nD τ := V d (cV L) (jV L)
abbrev cell0 : GSem nD τ sig := (vt d L, .dma cc1_scoped0.sem)
abbrev cell1 : GSem nD τ sig := (vt d L, .dma cc1_scoped1.sem)
abbrev cell2 : GSem nD τ sig := (vt d L, .dma cc1_scoped2.sem)
abbrev cell3 : GSem nD τ sig := (vt d L, .dma cc1_scoped3.sem)

/-- The set of a subcore's row of the result. -/
abbrev rowSet : Finset (Idx (l4 d)) := (rowSlice L).view.set

omit [FloatOps F] in
theorem pts_first (q : PosShare TreeShare) (f : Buf (Elt F) (l1 d)) :
    ((firstChunk L).view.loc (vt d L) ↦{q} f : sProp 𝕄) = l1 d ↦{q} f := rfl
omit [FloatOps F] in
theorem pts_second (q : PosShare TreeShare) (f : Buf (Elt F) (l2 d)) :
    ((secondChunk L).view.loc (vt d L) ↦{q} f : sProp 𝕄) = l2 d ↦{q} f := rfl
omit [FloatOps F] in
theorem pts_sums (q : PosShare TreeShare) (f : Buf (Elt F) (l3 d)) :
    ((sumsSlice L).view.loc (vt d L) ↦{q} f : sProp 𝕄) = l3 d ↦{q} f := rfl
omit [FloatOps F] in
theorem pts_row (f : Buf (Elt F) (l4 d)) :
    ((rowSlice L).view.loc (vt d L) ↦[(rowSlice L).view.set]{fullShare} f : sProp 𝕄) = l4 d ↦[rowSet d L]{fullShare} f := rfl

omit [FloatOps F] in
theorem pts_ids (f : Buf (Elt F) ((vt d L).loc cc1_scratch0)) :
    ((idScr : Memref sig .scVector .vmem S1024 .i32).view.loc (vt d L) ↦{fullShare} f : sProp 𝕄) = (vt d L).loc cc1_scratch0 ↦{fullShare} f := rfl
omit [FloatOps F] in
theorem pts_psum (f : Buf (Elt F) ((vt d L).loc cc1_scratch1)) :
    ((sumScr : Memref sig .scVector .vmem S64 .f32).view.loc (vt d L) ↦{fullShare} f : sProp 𝕄) = (vt d L).loc cc1_scratch1 ↦{fullShare} f := rfl
omit [FloatOps F] in
theorem pts_hist (f : Buf (Elt F) ((vt d L).loc cc1_scratch2)) :
    ((histScr : Memref sig .scVector .vmem S64 .f32).view.loc (vt d L) ↦{fullShare} f : sProp 𝕄) = (vt d L).loc cc1_scratch2 ↦{fullShare} f := rfl
omit [FloatOps F] in
theorem pts_out (f : Buf (Elt F) ((vt d L).loc cc1_scratch3)) :
    ((outScr : Memref sig .scVector .vmem S16 .f32).view.loc (vt d L) ↦{fullShare} f : sProp 𝕄) = (vt d L).loc cc1_scratch3 ↦{fullShare} f := rfl

omit [FloatOps F] in
theorem ownSems0_tile :
    (ownSems0 (vt d L) : sProp 𝕄)
      = iprop(semVal (cell0 d L) 0 ∗ semVal (cell1 d L) 0 ∗ semVal (cell2 d L) 0 ∗ semVal (cell3 d L) 0
          ∗ bigSep (((((ownCells (vt d L)).erase (cell0 d L)).erase (cell1 d L)).erase (cell2 d L)).erase (cell3 d L))
              fun g => semVal g 0) := by
  have ne : ∀ {a b : DmaSem sig}, a ≠ b → ((vt d L, SemLoc.dma a) : GSem nD τ sig) ≠ (vt d L, SemLoc.dma b) :=
    fun h e => h (SemLoc.dma.inj (Prod.mk.inj e).2)
  have h0 : cell0 d L ∈ ownCells (vt d L) := mem_ownCells.mpr ⟨rfl, by
    show (SemLoc.dma cc1_scoped0.sem : SemLoc sig).isScoped .scVector = true; decide⟩
  have h1 : cell1 d L ∈ ownCells (vt d L) := mem_ownCells.mpr ⟨rfl, by
    show (SemLoc.dma cc1_scoped1.sem : SemLoc sig).isScoped .scVector = true; decide⟩
  have h2 : cell2 d L ∈ ownCells (vt d L) := mem_ownCells.mpr ⟨rfl, by
    show (SemLoc.dma cc1_scoped2.sem : SemLoc sig).isScoped .scVector = true; decide⟩
  have h3 : cell3 d L ∈ ownCells (vt d L) := mem_ownCells.mpr ⟨rfl, by
    show (SemLoc.dma cc1_scoped3.sem : SemLoc sig).isScoped .scVector = true; decide⟩
  unfold SparseCore.Cfg.ownSems0
  rw [SparseCore.bigSep_erase' h0,
    SparseCore.bigSep_erase' (Finset.mem_erase.mpr ⟨ne (by decide), h1⟩),
    SparseCore.bigSep_erase' (Finset.mem_erase.mpr ⟨ne (by decide), Finset.mem_erase.mpr ⟨ne (by decide), h2⟩⟩),
    SparseCore.bigSep_erase' (Finset.mem_erase.mpr ⟨ne (by decide), Finset.mem_erase.mpr ⟨ne (by decide),
      Finset.mem_erase.mpr ⟨ne (by decide), h3⟩⟩⟩)]

omit [FloatOps F] in
theorem ownBufs_tile :
    (ownBufs (vt d L) : sProp 𝕄)
      = iprop((∃ f, (vt d L).loc cc1_scratch0 ↦{fullShare} f) ∗ (∃ f, (vt d L).loc cc1_scratch1 ↦{fullShare} f)
          ∗ (∃ f, (vt d L).loc cc1_scratch2 ↦{fullShare} f) ∗ (∃ f, (vt d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b hb =>
    SparseCore.Cfg.mem_ownRefs_of_owner (p := Proc.scVector (cV L) (jV L)) (b := (Proc.scVector (cV L) (jV L)).devRef b) hb
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (own cc1_scratch0 rfl)).trans ?_
  rw [SparseCore.bigSep_erase' (Finset.mem_erase.mpr ⟨ne (show (cc1_scratch1 : Ref sig .scVector) ≠ cc1_scratch0 by decide), own cc1_scratch1 rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own cc1_scratch2 rfl⟩⟩),
    SparseCore.bigSep_erase' (Finset.mem_erase.mpr ⟨ne (show (cc1_scratch3 : Ref sig .scVector) ≠ cc1_scratch2 by decide),
      Finset.mem_erase.mpr ⟨ne (show (cc1_scratch3 : Ref sig .scVector) ≠ cc1_scratch1 by decide),
        Finset.mem_erase.mpr ⟨ne (show (cc1_scratch3 : Ref sig .scVector) ≠ cc1_scratch0 by decide), own cc1_scratch3 rfl⟩⟩⟩)]

/-! ## The run -/

variable (A1 : Buf (Elt F) (l1 d)) (A2 : Buf (Elt F) (l2 d)) (A3 : Buf (Elt F) (l3 d))

/-- What a subcore is handed and hands back: read shares of the three tables, its row of the result whole. -/
abbrev tileRes (q1 q2 q3 : PosShare TreeShare) (A4 : Buf (Elt F) (l4 d)) : sProp 𝕄 :=
  iprop((l1 d ↦{q1} A1) ∗ (l2 d ↦{q2} A2) ∗ (l3 d ↦{q3} A3) ∗ (l4 d ↦[rowSet d L]{fullShare} A4))

theorem histUpTo_zero (h : Vec F S64 .f32) (a : Vec F S1024 .i32) : histUpTo h a 0 = h := rfl
theorem histUpTo_succ (h : Vec F S64 .f32) (a : Vec F S1024 .i32) (n : ℕ) (hn : n < 64) :
    histUpTo h a (n + 1) = histStep (histUpTo h a n) (win16 a n hn) := dif_pos hn

/-- Between two windows of sixteen: the chunk as fetched, the histogram of the windows so far. -/
def histInv (h : Vec F S64 .f32) (a : Vec F S1024 .i32) (n : ℕ) (_ : BitVec 32) : sProp 𝕄 :=
  iprop(((idScr : Memref sig .scVector .vmem S1024 .i32).view.loc (vt d L) ↦{fullShare} (a : Buf (Elt F) ((vt d L).loc cc1_scratch0)))
    ∗ ((histScr : Memref sig .scVector .vmem S64 .f32).view.loc (vt d L) ↦{fullShare} (histUpTo h a n : Buf (Elt F) ((vt d L).loc cc1_scratch2))))

omit [FloatOps F] in
theorem hist_whole (f : Buf (Elt F) ((vt d L).loc cc1_scratch2)) :
    (((histScr : Memref sig .scVector .vmem S64 .f32).access (.whole S64)).loc (vt d L) ↦[((histScr : Memref sig .scVector .vmem S64 .f32).access (.whole S64)).set]{fullShare} f : sProp 𝕄)
      = (histScr : Memref sig .scVector .vmem S64 .f32).view.loc (vt d L) ↦{fullShare} f := by
  rw [show ((histScr : Memref sig .scVector .vmem S64 .f32).access (.whole S64)).set = Finset.univ from Memref.set_access_whole (cc1_scratch2 : Ref sig .scVector)]

/-- A window of sixteen loaded at offset `16 n` is window `n`. -/
theorem load_win (a : Vec F S1024 .i32) (off : Fin 1 → ℕ) (inb : ∀ x, off x + S16.size x ≤ S1024.size x) (n : ℕ) (hn : n < 64)
    (hoff : off = ![16 * n]) :
    (idScr : Memref sig .scVector .vmem S1024 .i32).view.readAt (Elt F) (Rect.unit (s := S1024) off S16.size inb).toLoadRect
      a = win16 a n hn := by
  subst hoff
  funext x
  simp only [View.readAt_apply, Memref.view_whole, View.read_whole]
  unfold win16
  congr 1
  funext b
  obtain rfl : b = 0 := Subsingleton.elim _ _
  apply Fin.ext
  rw [LoadRect.idx_apply]
  show 16 * n + 1 * (x 0).val = 16 * n + (x 0).val
  omega

theorem chk_win (a : Vec F S1024 .i32) (ha : ∀ j, (a j).toNat < 64) (n : ℕ) (hn : n < 64) : k1_chk1 (win16 a n hn) := by
  intro b x
  obtain rfl : b = 0 := Subsingleton.elim _ _
  exact ha _

/-- A scattered add of window `n` makes the histogram of `n + 1` windows. -/
theorem store_win (h0 : Vec F S64 .f32) (a : Vec F S1024 .i32) (n : ℕ) (hn : n < 64) (ha : ∀ j, (a j).toNat < 64) (v : Vec F S16 .i32)
    (hv : v = win16 a n hn) (cst : F .f32) (hcst : cst = one16) (hc : ∀ b x, ((![v] : Fin 1 → IVec S16 32) b x).toNat < S64.size b) :
    ((histScr : Memref sig .scVector .vmem S64 .f32).access (.whole S64)).write (Elt F) (histUpTo h0 a n : Buf (Elt F) ((vt d L).loc cc1_scratch2))
      (storeIdx (((histScr : Memref sig .scVector .vmem S64 .f32).access (.whole S64)).read (Elt F) (histUpTo h0 a n : Buf (Elt F) ((vt d L).loc cc1_scratch2)))
        ![v] (k1_pay5 cst) (fun _ => 1#1) true hc) Finset.univ = histUpTo h0 a (n + 1) := by
  subst hv hcst
  rw [histUpTo_succ h0 a n hn]
  unfold histStep
  rw [dif_pos (chk_win a ha n hn)]
  refine (Memref.write_access_whole_univ (Elt F) (cc1_scratch2 : Ref sig .scVector) _ _).trans ?_
  exact congrArg (fun g : Vec F S64 .f32 => storeIdx g ![win16 a n hn] (k1_pay5 one16) (fun _ => 1#1) true hc)
    (Memref.read_access_whole (Elt F) (cc1_scratch2 : Ref sig .scVector) (histUpTo h0 a n))

theorem zero_hist (f : Buf (Elt F) ((vt d L).loc cc1_scratch2)) :
    (histScr : Memref sig .scVector .vmem S64 .f32).view.writes (Elt F) f
      [⟨Rect.unit ![48] S16.size inb_S64_S16_48, k1_pay4⟩, ⟨Rect.unit ![32] S16.size inb_S64_S16_32, k1_pay3⟩,
        ⟨Rect.unit ![16] S16.size inb_S64_S16_16, k1_pay2⟩, ⟨Rect.unit ![0] S16.size inb_S64_S16_0, k1_pay1⟩]
      = (hist0 : Vec F S64 .f32) := by
  have key : (histScr : Memref sig .scVector .vmem S64 .f32).view.read (Elt F) ((histScr : Memref sig .scVector .vmem S64 .f32).view.writes (Elt F) f
      [⟨Rect.unit ![48] S16.size inb_S64_S16_48, k1_pay4⟩, ⟨Rect.unit ![32] S16.size inb_S64_S16_32, k1_pay3⟩,
        ⟨Rect.unit ![16] S16.size inb_S64_S16_16, k1_pay2⟩, ⟨Rect.unit ![0] S16.size inb_S64_S16_0, k1_pay1⟩]) = hist0 := by
    rw [View.read_writes_cons_put _ _ _ _ _ rfl, View.read_writes_cons_put _ _ _ _ _ rfl, View.read_writes_cons_put _ _ _ _ _ rfl,
      View.read_writes_cons_put _ _ _ _ _ rfl]
    funext y
    have hy : (y 0).val < 64 := (y 0).isLt
    unfold VecWindow.put
    split_ifs with h48 h32 h16 h0
    · rfl
    · rfl
    · rfl
    · rfl
    · exfalso
      have no : ∀ o : ℕ, ¬ (∀ a : Fin 1, (![o] : Fin 1 → ℕ) a ≤ (y a).val ∧ (y a).val < (![o] : Fin 1 → ℕ) a + S16.size a) →
          ¬ (o ≤ (y 0).val ∧ (y 0).val < o + 16) := fun o h hh => h fun a => by
        obtain rfl : a = 0 := Subsingleton.elim _ _
        exact hh
      have := no _ h48
      have := no _ h32
      have := no _ h16
      have := no _ h0
      omega
  exact key

/-- Sixteen elements loaded at offset `o` from the histogram buffer, and from the sums' buffer. -/
theorem load_hist (f : Vec F S64 .f32) (o : ℕ) (ho : o + 16 ≤ 64) (inb : ∀ x, (![o] : Fin 1 → ℕ) x + S16.size x ≤ S64.size x) :
    (histScr : Memref sig .scVector .vmem S64 .f32).view.readAt (Elt F) (Rect.unit (s := S64) ![o] S16.size inb).toLoadRect f = piece o ho f := by
  funext x
  simp only [View.readAt_apply, Memref.view_whole, View.read_whole]
  unfold piece
  congr 1
  funext b
  obtain rfl : b = 0 := Subsingleton.elim _ _
  apply Fin.ext
  rw [LoadRect.idx_apply]
  show o + 1 * (x 0).val = o + (x 0).val
  omega
theorem load_sums (f : Vec F S64 .f32) (o : ℕ) (ho : o + 16 ≤ 64) (inb : ∀ x, (![o] : Fin 1 → ℕ) x + S16.size x ≤ S64.size x) :
    (sumScr : Memref sig .scVector .vmem S64 .f32).view.readAt (Elt F) (Rect.unit (s := S64) ![o] S16.size inb).toLoadRect f = piece o ho f := by
  funext x
  simp only [View.readAt_apply, Memref.view_whole, View.read_whole]
  unfold piece
  congr 1
  funext b
  obtain rfl : b = 0 := Subsingleton.elim _ _
  apply Fin.ext
  rw [LoadRect.idx_apply]
  show o + 1 * (x 0).val = o + (x 0).val
  omega

/-- Element `y` of a subcore's row lies at row `2 s + c`, column `y`. -/
theorem row_emb (y : S16.Idx) : ((rowSlice L).view.emb y 0).val = 2 * (L 1).val + (L 0).val ∧ ((rowSlice L).view.emb y 1).val = (y 0).val := by
  have e : (rowSlice L).view.emb y = (Rect.unit (s := S32x16) (k1_off5 L) S1x16.size (k1_off5_inb L)).emb
      (Shape.reshapeEquiv squeezes_S1x16_S16.numel_eq y) := rfl
  have hz := Shape.rowMajor_reshapeEquiv (s := S1x16) (s' := S16) squeezes_S1x16_S16.numel_eq y
  generalize Shape.reshapeEquiv (s := S1x16) (s' := S16) squeezes_S1x16_S16.numel_eq y = z at e hz
  rw [Shape.rowMajor_val_two, Shape.rowMajor_val_one] at hz
  have h0 : (z 0).val < 1 := (z 0).isLt
  have hz' : (z 0).val * 16 + (z 1).val = (y 0).val := hz
  have ho := k1_off5_eq L
  constructor
  · rw [e]
    show (k1_off5 L) 0 + 1 * (z 0).val = _
    rw [ho]
    show 2 * (L 1).val + (L 0).val + 1 * (z 0).val = _
    omega
  · rw [e]
    show (k1_off5 L) 1 + 1 * (z 1).val = _
    rw [ho]
    show 0 + 1 * (z 1).val = _
    omega

/-- The subcore that writes the row a subcore's row lies in is that subcore. -/
theorem rowCoords_self (r : Fin 32) (h : r.val = 2 * (L 1).val + (L 0).val) : rowCoords r = L := by
  have h0 : (L 0).val < 2 := (L 0).isLt
  funext a
  match a with
  | 0 => exact Fin.ext (show r.val % 2 = (L 0).val by omega)
  | 1 => exact Fin.ext (show r.val / 2 = (L 1).val by omega)

/-- A subcore's row, once its sixteen partial sums are written, agrees with the whole result. -/
theorem row_written (A1 A2 : Vec F S32768 .i32) (A3 : Vec F S256 .f32) (A4 : Buf (Elt F) (l4 d)) (w : Vec F S16 .f32)
    (hw : w = tileOut A1 A2 A3 L) (i : Idx (l4 d)) (hi : i ∈ rowSet d L) :
    (rowSlice L).view.writes (Elt F) A4 [⟨Rect.whole S16, w⟩] i = (scOut A1 A2 A3 : Buf (Elt F) (l4 d)) i := by
  obtain ⟨y, -, rfl⟩ := Finset.mem_map.mp hi
  have h := congrFun (View.read_writes_whole (rowSlice L).view A4 w) y
  have h' : (rowSlice L).view.writes (Elt F) A4 [⟨Rect.whole S16, w⟩] ((rowSlice L).view.emb y) = w y := h
  refine h'.trans ?_
  subst hw
  obtain ⟨e0, e1⟩ := row_emb L y
  show _ = tileOut A1 A2 A3 (rowCoords ((rowSlice L).view.emb y 0)) (Shape.ofLane (d := S16.size) ((rowSlice L).view.emb y 1))
  rw [rowCoords_self L _ e0]
  congr 1
  funext a
  obtain rfl : a = 0 := Subsingleton.elim _ _
  exact Fin.ext e1.symm

theorem trips1 : k1_t1_loop.trips = 64 := by decide +kernel
theorem trips2 : k1_t2_loop.trips = 64 := by decide +kernel

omit [FloatOps F] in
theorem ids1_lt (A1 : Vec F S32768 .i32) (h : ∀ j, (A1 j).toNat < 64) (j : S1024.Idx) : ((ids1 A1 L : Vec F S1024 .i32) j).toNat < 64 := h _
omit [FloatOps F] in
theorem ids2_lt (A2 : Vec F S32768 .i32) (h : ∀ j, (A2 j).toNat < 64) (j : S1024.Idx) : ((ids2 A2 L : Vec F S1024 .i32) j).toNat < 64 := h _

set_option maxHeartbeats 1000000 in
theorem tile_body (hF : (K (F := F)).Facts) (hA1 : ∀ j, (A1 j).toNat < 64) (hA2 : ∀ j, (A2 j).toNat < 64) (q1 q2 q3 : PosShare TreeShare) (A4 : Buf (Elt F) (l4 d))
    (O : CellTallies nD τ sig (HIx 1)) (W : Waits sig (HIx 1)) (hO : ∀ g, O g none = 0) :
    iprop(levAts (K (F := F)).L (K (F := F)).lev ∗ emp
        ∗ tileRes d L A1 A2 A3 q1 q2 q3 A4
        ∗ scopedBufs (vt d L) ∗ scopedSems0 (vt d L) ∗ owes (vt d L) O W)
      ⊢ wp frame (wpE (defs₀ (F := F)) 𝒱₀ (vt d L) none) Set.univ
          (cc1_sc_aux L firstW (Memref.isWhole_whole _) secondW (Memref.isWhole_whole _) sumsW (Memref.isWhole_whole _)
            partsW (Memref.isWhole_whole _) idScr (Memref.isWhole_whole _) sumScr (Memref.isWhole_whole _)
            histScr (Memref.isWhole_whole _) outScr (Memref.isWhole_whole _) cc1_scoped0 cc1_scoped1 cc1_scoped2 cc1_scoped3)
          fun _ => iprop(tileRes d L A1 A2 A3 q1 q2 q3 (scOut A1 A2 A3)
            ∗ scopedBufs (vt d L) ∗ scopedSems0 (vt d L)
            ∗ ∃ W', ⌜∀ p ∈ W', p ∈ W ∨ p.2 = none⌝ ∗ owes (vt d L) O W') := by
  simp only [cc1_sc_aux_eq_skeleton]; unfold cc1_sc_aux_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_tile, ownBufs_tile]
  iintro ⟨#Hlv, -, ⟨H1, H2, H3, H4⟩, ⟨⟨%f0, Hs0⟩, ⟨%f1, Hs1⟩, ⟨%f2, Hs2⟩, ⟨%f3, Hs3⟩, Hbufs⟩, ⟨Hm0, Hm1, Hm2, Hm3, Hsems⟩, HO⟩
  ihave Hmw := ((K (F := F)).mayWaits_none (thr := vt d L) hO) $$ Hlv
  ihave H1' := (Entails.of_eq (pts_first (F := F) d L _ _).symm) $$ H1
  ihave H2' := (Entails.of_eq (pts_second (F := F) d L _ _).symm) $$ H2
  ihave H3' := (Entails.of_eq (pts_sums (F := F) d L _ _).symm) $$ H3
  ihave H4' := (Entails.of_eq (pts_row (F := F) d L _).symm) $$ H4
  ihave Hs0' := (Entails.of_eq (pts_ids (F := F) d L _).symm) $$ Hs0
  ihave Hs1' := (Entails.of_eq (pts_psum (F := F) d L _).symm) $$ Hs1
  ihave Hs2' := (Entails.of_eq (pts_hist (F := F) d L _).symm) $$ Hs2
  ihave Hs3' := (Entails.of_eq (pts_out (F := F) d L _).symm) $$ Hs3
  sl_exec
  rw [bind_assoc]
  rw [zero_hist d L f2]
  rw [show View.write (Elt F) (sumScr : Memref sig .scVector .vmem S64 .f32).view f1 (tile_body.sl.dma0 d L A3) Finset.univ = sums A3 L from
    View.write_whole_univ _ _ _]
  rw [show View.write (Elt F) (idScr : Memref sig .scVector .vmem S1024 .i32).view f0 (tile_body.sl.dma8 d L A1) Finset.univ = ids1 A1 L from
    View.write_whole_univ _ _ _]
  sl_for (histInv d L hist0 (ids1 A1 L)) $$ [Hs0' Hs2']
  case region =>
    intro k acc
    have hk : k.val < 64 := lt_of_lt_of_eq k.isLt trips1
    have ha : ∀ j, ((ids1 A1 L : Vec F S1024 .i32) j).toNat < 64 := ids1_lt L A1 hA1
    have hw := load_win (ids1 A1 L) (k1_off3 k) (k1_off3_inb k) k.val hk (k1_off3_eq k)
    unfold histInv
    iintro ⟨Ha, Hh⟩
    sl_exec
    rw [wp_assume_of _ _ _ _ (hw ▸ chk_win _ ha k.val hk)]
    ihave Hh' := (Entails.of_eq (hist_whole (F := F) d L _).symm) $$ Hh
    iapply (SparseCore.wp_vectorStoreIdx 𝒱₀ (vt d L) none Set.univ (base := (histScr : Memref sig .scVector .vmem S64 .f32))) $$ Hh'; iintro Hh'
    ihave Hh := (Entails.of_eq ((hist_whole (F := F) d L _).trans
      (congrArg (fun f => ((histScr : Memref sig .scVector .vmem S64 .f32).view.loc (vt d L) ↦{fullShare} f : sProp 𝕄))
        (store_win _ _ k.val hk ha _ rfl _ (show tile_body.sl.cst_7 (F := F) = one16 from rfl) _)))) $$ Hh'
    sl_step
    isplitl [Ha] <;> iassumption
  · unfold histInv
    rw [histUpTo_zero]
    isplitl [Hs0'] <;> iassumption
  iintro %_ HI
  unfold histInv
  icases HI with ⟨Hs0, Hs2⟩
  sl_exec
  rw [bind_assoc]
  rw [show View.write (Elt F) (idScr : Memref sig .scVector .vmem S1024 .i32).view (ids1 A1 L) (tile_body.sl.dma0_1 d L A2) Finset.univ = ids2 A2 L from
    View.write_whole_univ _ _ _, show histUpTo hist0 (ids1 A1 L) (Scf.trips k1_t1_loop.lb k1_t1_loop.ub k1_t1_loop.st) = histUpTo hist0 (ids1 A1 L) 64 from
      congrArg _ trips1]
  sl_for (histInv d L (histUpTo hist0 (ids1 A1 L) 64) (ids2 A2 L)) $$ [Hs0 Hs2]
  case region =>
    intro k acc
    have hk : k.val < 64 := lt_of_lt_of_eq k.isLt trips2
    have ha : ∀ j, ((ids2 A2 L : Vec F S1024 .i32) j).toNat < 64 := ids2_lt L A2 hA2
    have hw := load_win (ids2 A2 L) (k1_off4 k) (k1_off4_inb k) k.val hk (k1_off4_eq k)
    unfold histInv
    iintro ⟨Ha, Hh⟩
    sl_exec
    rw [wp_assume_of _ _ _ _ (hw ▸ chk_win _ ha k.val hk)]
    ihave Hh' := (Entails.of_eq (hist_whole (F := F) d L _).symm) $$ Hh
    iapply (SparseCore.wp_vectorStoreIdx 𝒱₀ (vt d L) none Set.univ (base := (histScr : Memref sig .scVector .vmem S64 .f32))) $$ Hh'; iintro Hh'
    ihave Hh := (Entails.of_eq ((hist_whole (F := F) d L _).trans
      (congrArg (fun f => ((histScr : Memref sig .scVector .vmem S64 .f32).view.loc (vt d L) ↦{fullShare} f : sProp 𝕄))
        (store_win _ _ k.val hk ha _ rfl _ (show tile_body.sl.cst_7 (F := F) = one16 from rfl) _)))) $$ Hh'
    sl_step
    isplitl [Ha] <;> iassumption
  · unfold histInv
    rw [histUpTo_zero]
    isplitl [Hs0] <;> iassumption
  iintro %_ HI
  unfold histInv
  icases HI with ⟨Hs0, Hs2⟩
  rw [show histUpTo (histUpTo hist0 (ids1 A1 L) 64) (ids2 A2 L) (Scf.trips k1_t2_loop.lb k1_t2_loop.ub k1_t2_loop.st) = tileHist A1 A2 L from
      congrArg _ trips2]
  sl_exec
  have hout : tile_body.sl.dma10 d L A1 A2 A3 f3 = tileOut A1 A2 A3 L := by
    unfold tile_body.sl.dma10
    refine (View.read_writes_full _ _ _ _ _).trans ?_
    unfold tileOut
    rw [load_hist _ 0 (by omega), load_hist _ 16 (by omega), load_hist _ 32 (by omega), load_hist _ 48 (by omega),
      load_sums _ 0 (by omega), load_sums _ 16 (by omega), load_sums _ 32 (by omega), load_sums _ 48 (by omega)]
  ihave H4 := (Entails.of_eq (pointsTo_congr (row_written d L A1 A2 A3 A4 _ hout))) $$ H4'
  sl_step
  isplitl [H1' H2' H3' H4]
  · isplitl [H1']; · iexact H1'
    isplitl [H2']; · iexact H2'
    isplitl [H3']; · iexact H3'
    iexact H4
  isplitl [Hs0 Hs1' Hs2 Hs3' Hbufs]
  · isplitl [Hs0]; · iexists _; iexact Hs0
    isplitl [Hs1']; · iexists _; iexact Hs1'
    isplitl [Hs2]; · iexists _; iexact Hs2
    isplitl [Hs3']; · iexists _; iexact Hs3'
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists _; isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp

end Cert.Proof.Moe

end
-- ==== Proof.Call.lean ====
/-
  The SparseCore call: what the TensorCore hands each SparseCore and each SparseCore its sixteen vector subcores, and
  back. The three tables are read by all: every subcore holds a read share of each. The result is cut into its rows.
-/
module

public import proofs.«01_k».proof.Proof.Tile

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type} [FloatOps F]

local notation "𝕄" => MT nD τ sig (HIx 1) (Elt F) ℕ UU ℕ

/-! ## Coordinates, shares and rows -/

/-- The subcore of SparseCore `c` and number `s`. -/
def at' (c : Fin 2) (s : Fin 16) : grid1.Coords :=
  fun | 0 => c | 1 => s | ⟨_ + 2, h⟩ => absurd h (Nat.not_lt.2 (Nat.le_add_left _ _))

/-- The read share of a table that SparseCore `c` holds, and of it the share its subcore `s` holds. -/
def coreShare (c : Fin 2) : PosShare TreeShare := dealOf fullShare Finset.univ c
def tileShare (c : Fin 2) (s : Fin 16) : PosShare TreeShare := dealOf (coreShare c) Finset.univ s

section Rows

variable (d : Dev nD)

theorem mem_row (c : Fin 2) (s : Fin 16) (i : Idx (l4 d)) : i ∈ rowSet d (at' c s) ↔ (i 0).val = 2 * s.val + c.val := by
  constructor
  · intro hi
    obtain ⟨y, -, rfl⟩ := Finset.mem_map.mp hi
    exact (row_emb (at' c s) y).1
  · intro h
    have e : (rowSlice (at' c s)).view.emb (Shape.ofLane (d := S16.size) (i 1)) = i := by
      obtain ⟨e0, e1⟩ := row_emb (at' c s) (Shape.ofLane (d := S16.size) (i 1))
      funext a
      match a with
      | 0 => exact Fin.ext (e0.trans h.symm)
      | 1 => exact Fin.ext e1
    rw [← e]
    exact View.emb_mem_set _ _

/-- The rows of SparseCore `c`'s subcores. -/
def coreRows (c : Fin 2) : Finset (Idx (l4 d)) := Finset.univ.biUnion fun s : Fin 16 => rowSet d (at' c s)

theorem rows_disjoint (c : Fin 2) : ∀ s ∈ (Finset.univ : Finset (Fin 16)), ∀ s' ∈ (Finset.univ : Finset (Fin 16)), s ≠ s' →
    Disjoint (rowSet d (at' c s)) (rowSet d (at' c s')) := fun s _ s' _ h =>
  Finset.disjoint_left.mpr fun i h1 h2 => h (Fin.ext (by
    have := (mem_row d c s i).mp h1
    have := (mem_row d c s' i).mp h2
    omega))

theorem coreRows_disjoint : ∀ c ∈ (Finset.univ : Finset (Fin 2)), ∀ c' ∈ (Finset.univ : Finset (Fin 2)), c ≠ c' →
    Disjoint (coreRows d c) (coreRows d c') := fun c _ c' _ h =>
  Finset.disjoint_left.mpr fun i h1 h2 => h (Fin.ext (by
    obtain ⟨s, -, h1⟩ := Finset.mem_biUnion.mp h1
    obtain ⟨s', -, h2⟩ := Finset.mem_biUnion.mp h2
    have := (mem_row d c s i).mp h1
    have := (mem_row d c' s' i).mp h2
    have := c.isLt
    have := c'.isLt
    omega))

theorem coreRows_cover : (Finset.univ : Finset (Fin 2)).biUnion (coreRows d) = Finset.univ :=
  Finset.eq_univ_iff_forall.mpr fun i => by
    have hi : (i 0).val < 32 := (i 0).isLt
    refine Finset.mem_biUnion.mpr ⟨⟨(i 0).val % 2, Nat.mod_lt _ (by decide)⟩, Finset.mem_univ _, Finset.mem_biUnion.mpr
      ⟨⟨(i 0).val / 2, by omega⟩, Finset.mem_univ _, (mem_row d _ _ i).mpr ?_⟩⟩
    show (i 0).val = 2 * ((i 0).val / 2) + (i 0).val % 2
    omega

theorem parts_rows (f : Buf (Elt F) (l4 d)) :
    (l4 d ↦{fullShare} f : sProp 𝕄)
      = bigSep Finset.univ fun c : Fin 2 => bigSep Finset.univ fun s : Fin 16 => l4 d ↦[rowSet d (at' c s)]{fullShare} f := by
  rw [show (bigSep Finset.univ fun c : Fin 2 => bigSep Finset.univ fun s : Fin 16 => (l4 d ↦[rowSet d (at' c s)]{fullShare} f : sProp 𝕄))
      = bigSep Finset.univ fun c : Fin 2 => (l4 d ↦[coreRows d c]{fullShare} f : sProp 𝕄) from
    bigSep_congr fun c _ => (pointsTo_biUnion Finset.univ (ℓ := l4 d) (fun s => rowSet d (at' c s)) (rows_disjoint d c)).symm]
  rw [← pointsTo_biUnion Finset.univ (ℓ := l4 d) (coreRows d) (coreRows_disjoint d), coreRows_cover]

end Rows

/-! ## What is handed over -/

section

variable (A1 A2 : Dev nD → Vec F S32768 .i32) (A3 : Dev nD → Vec F S256 .f32) (A4 : Dev nD → Vec F S32x16 .f32)

/-- The partial sums the call leaves. -/
def callOut (d : Dev nD) : Vec F S32x16 .f32 := scOut (A1 d) (A2 d) (A3 d)

/-- A SparseCore's part of the four arrays, with the result at `f`. -/
def corePart (f : Dev nD → Vec F S32x16 .f32) (d : Dev nD) (c : Fin 2) : sProp 𝕄 :=
  iprop((l1 d ↦{coreShare c} (A1 d : Buf (Elt F) (l1 d))) ∗ (l2 d ↦{coreShare c} (A2 d : Buf (Elt F) (l2 d)))
    ∗ (l3 d ↦{coreShare c} (A3 d : Buf (Elt F) (l3 d)))
    ∗ bigSep Finset.univ fun s : Fin 16 => l4 d ↦[rowSet d (at' c s)]{fullShare} (f d : Buf (Elt F) (l4 d)))

/-- A subcore's part. -/
def tilePart (f : Dev nD → Vec F S32x16 .f32) (d : Dev nD) (c : Fin 2) (s : Fin 16) : sProp 𝕄 :=
  tileRes d (at' c s) (A1 d) (A2 d) (A3 d) (tileShare c s) (tileShare c s) (tileShare c s) (f d)

instance corePart_storable (f : Dev nD → Vec F S32x16 .f32) (d : Dev nD) (c : Fin 2) :
    BI.Storable (upEmb : UEmb _ 𝕄) (corePart A1 A2 A3 f d c) := by unfold corePart; infer_instance
instance tilePart_storable (f : Dev nD → Vec F S32x16 .f32) (d : Dev nD) (c : Fin 2) (s : Fin 16) :
    BI.Storable (upEmb : UEmb _ 𝕄) (tilePart A1 A2 A3 f d c s) := by unfold tilePart; infer_instance

/-- A SparseCore's part is its sixteen subcores' parts. -/
theorem corePart_tiles (f : Dev nD → Vec F S32x16 .f32) (d : Dev nD) (c : Fin 2) :
    (corePart A1 A2 A3 f d c : sProp 𝕄) = bigSep Finset.univ fun s : Fin 16 => tilePart A1 A2 A3 f d c s := by
  unfold corePart tilePart tileRes
  rw [bigSep_sep', bigSep_sep', bigSep_sep']
  rw [pointsTo_deal (ℓ := l1 d) (Finset.univ : Finset (Fin 16)) Finset.univ_nonempty (coreShare c),
    pointsTo_deal (ℓ := l2 d) (Finset.univ : Finset (Fin 16)) Finset.univ_nonempty (coreShare c),
    pointsTo_deal (ℓ := l3 d) (Finset.univ : Finset (Fin 16)) Finset.univ_nonempty (coreShare c)]
  rfl

/-- The four arrays are the two SparseCores' parts. -/
theorem arrays_cores (f : Dev nD → Vec F S32x16 .f32) (d : Dev nD) :
    (iprop((l1 d ↦{fullShare} (A1 d : Buf (Elt F) (l1 d))) ∗ (l2 d ↦{fullShare} (A2 d : Buf (Elt F) (l2 d)))
      ∗ (l3 d ↦{fullShare} (A3 d : Buf (Elt F) (l3 d))) ∗ (l4 d ↦{fullShare} (f d : Buf (Elt F) (l4 d)))) : sProp 𝕄)
      = bigSep Finset.univ fun c : Fin 2 => corePart A1 A2 A3 f d c := by
  unfold corePart
  rw [bigSep_sep', bigSep_sep', bigSep_sep']
  rw [pointsTo_deal (ℓ := l1 d) (Finset.univ : Finset (Fin 2)) Finset.univ_nonempty fullShare,
    pointsTo_deal (ℓ := l2 d) (Finset.univ : Finset (Fin 2)) Finset.univ_nonempty fullShare,
    pointsTo_deal (ℓ := l3 d) (Finset.univ : Finset (Fin 2)) Finset.univ_nonempty fullShare, parts_rows]
  rfl

/-- The call's payloads. -/
def P : (K (F := F)).Pay (nD := nD) (Val := Elt F) (Name := ℕ) (U := UU) where
  st := fun q d c => match q with | 0 => corePart A1 A2 A3 A4 d (Fin.cast nCore_zero c)
  dn := fun q d c => match q with | 0 => corePart A1 A2 A3 (callOut A1 A2 A3) d (Fin.cast nCore_zero c)
  go := fun q d c i => match q with | 0 => tilePart A1 A2 A3 A4 d (Fin.cast nCore_zero c) (Fin.cast nSub_zero i)
  td := fun q d c i => match q with | 0 => tilePart A1 A2 A3 (callOut A1 A2 A3) d (Fin.cast nCore_zero c) (Fin.cast nSub_zero i)
  x := fun _ _ => iprop(emp)

instance P_storable : (P A1 A2 A3 A4).IsStorable where
  st q d c := match q with | 0 => corePart_storable A1 A2 A3 A4 d (Fin.cast nCore_zero c)
  dn q d c := match q with | 0 => corePart_storable A1 A2 A3 (callOut A1 A2 A3) d (Fin.cast nCore_zero c)
  go q d c i := match q with | 0 => tilePart_storable A1 A2 A3 A4 d (Fin.cast nCore_zero c) (Fin.cast nSub_zero i)
  td q d c i := match q with | 0 => tilePart_storable A1 A2 A3 (callOut A1 A2 A3) d (Fin.cast nCore_zero c) (Fin.cast nSub_zero i)

/-! ## The launch's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_aux (coordsV c s)
          firstW (Memref.isWhole_whole _) secondW (Memref.isWhole_whole _) sumsW (Memref.isWhole_whole _)
            partsW (Memref.isWhole_whole _) idScr (Memref.isWhole_whole _) sumScr (Memref.isWhole_whole _)
            histScr (Memref.isWhole_whole _) outScr (Memref.isWhole_whole _) cc1_scoped0 cc1_scoped1 cc1_scoped2 cc1_scoped3) ⟨⟩ c s := rfl

/-- A wait recorded at no handshake is a wait the obligation allows. -/
theorem waits_allowed {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tileObl (hA1 : ∀ d j, (A1 d j).toNat < 64) (hA2 : ∀ d j, (A2 d j).toNat < 64) :
    (K (F := F)).TileObl (D (F := F)) 𝒱 (P A1 A2 A3 A4) v₀ 0 := by
  intro d c i O W hO _ _
  simp only [show (P A1 A2 A3 A4).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (A1 d) (A2 d) (A3 d) facts (hA1 d) (hA2 d) (tileShare (Fin.cast nCore_zero c) (Fin.cast nSub_zero i))
    (tileShare (Fin.cast nCore_zero c) (Fin.cast nSub_zero i)) (tileShare (Fin.cast nCore_zero c) (Fin.cast nSub_zero i)) (A4 d) O W hO).trans
    (wp_mono frame _ _ fun _ => waits_allowed)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P A1 A2 A3 A4) 0 := by
  intro d c
  show corePart A1 A2 A3 A4 d (Fin.cast nCore_zero c) ⊢ |={Set.univ}=> iprop(
      (bigSep Finset.univ fun i : Fin ((K (F := F)).nSub 0) => tilePart A1 A2 A3 A4 d (Fin.cast nCore_zero c) (Fin.cast nSub_zero i))
      ∗ ((bigSep Finset.univ fun i : Fin ((K (F := F)).nSub 0) => tilePart A1 A2 A3 (callOut A1 A2 A3) d (Fin.cast nCore_zero c) (Fin.cast nSub_zero i))
          -∗ corePart A1 A2 A3 (callOut A1 A2 A3) d (Fin.cast nCore_zero c)))
  rw [bigSep_tasks (F := F) (fun i => tilePart A1 A2 A3 A4 d (Fin.cast nCore_zero c) i),
    bigSep_tasks (F := F) (fun i => tilePart A1 A2 A3 (callOut A1 A2 A3) d (Fin.cast nCore_zero c) i), corePart_tiles, corePart_tiles]
  iintro H
  imodintro
  isplitl [H]
  · iexact H
  iintro H
  iexact H

/-- What the TensorCore hands over at the call, and what it takes back. -/
theorem handed (d : Dev nD) :
    (bigSep Finset.univ fun c : Fin ((K (F := F)).nCore 0) => (P A1 A2 A3 A4).st 0 d c)
      = (iprop((l1 d ↦{fullShare} (A1 d : Buf (Elt F) (l1 d))) ∗ (l2 d ↦{fullShare} (A2 d : Buf (Elt F) (l2 d)))
        ∗ (l3 d ↦{fullShare} (A3 d : Buf (Elt F) (l3 d))) ∗ (l4 d ↦{fullShare} (A4 d : Buf (Elt F) (l4 d)))) : sProp 𝕄) := by
  rw [arrays_cores]
  exact bigSep_cores (F := F) fun c => corePart A1 A2 A3 A4 d c
theorem taken (d : Dev nD) :
    (bigSep Finset.univ fun c : Fin ((K (F := F)).nCore 0) => (P A1 A2 A3 A4).dn 0 d c)
      = (iprop((l1 d ↦{fullShare} (A1 d : Buf (Elt F) (l1 d))) ∗ (l2 d ↦{fullShare} (A2 d : Buf (Elt F) (l2 d)))
        ∗ (l3 d ↦{fullShare} (A3 d : Buf (Elt F) (l3 d))) ∗ (l4 d ↦{fullShare} (callOut A1 A2 A3 d : Buf (Elt F) (l4 d)))) : sProp 𝕄) := by
  rw [arrays_cores]
  exact bigSep_cores (F := F) fun c => corePart A1 A2 A3 (callOut A1 A2 A3) d c

end

end Cert.Proof.Moe

end
-- ==== Proof.GateBody.lean ====
/-
  The gate kernel's body at one grid point: what it leaves in each of its windows' staging buffers, as a function of the
  blocks it reads.
-/
module

public import proofs.«01_k».proof.Proof.Setup
public import Idealize.ShloMosaic.Lib.VecWindow

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The body's test "this is the first block of the row": grid coordinate 1 is zero. -/
abbrev firstBlock (i : grid0.Coords) : Prop :=
  Scalar.cmpi .ne (Scalar.extui (Scalar.cmpi .eq (BitVec.ofNat 32 (i 1).val) 0#32)) 0#32 = 1#1

/-- It holds at the even points. -/
theorem firstBlock_iff : ∀ t : Fin cfg0.N, firstBlock (grid0.coords t) ↔ t.val % 2 = 0 := by
  decide +kernel

/-- From the blocks `x0` of the hidden states and
    `x1` of the weights and what the accumulator holds, the body leaves the two index planes, the two score planes and the
    accumulator with the block's row sums added — to zeros at a first block, to what was there otherwise. -/
theorem gate_triple (c : Dev nD) (i : grid0.Coords)
    (arg2 : Memref sig .tc .vmem S1x4096x1024 .f32) (harg2 : arg2.IsWhole) (arg3 : Memref sig .tc .vmem S64x1024 .f32) (harg3 : arg3.IsWhole)
    (arg4 : Memref sig .tc .vmem S1x1x4096 .i32) (harg4 : arg4.IsWhole) (arg5 : Memref sig .tc .vmem S1x1x4096 .i32) (harg5 : arg5.IsWhole)
    (arg6 : Memref sig .tc .vmem S1x1x4096 .f32) (harg6 : arg6.IsWhole) (arg7 : Memref sig .tc .vmem S1x1x4096 .f32) (harg7 : arg7.IsWhole)
    (arg8 : Memref sig .tc .vmem S1x64x1 .f32) (harg8 : arg8.IsWhole)
    (x0 : Vec F S1x4096x1024 .f32) (x1 : Vec F S64x1024 .f32) (x6 : Vec F S1x64x1 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare x6
        ∗ (iprop(owns (c : Thread nD τ) arg2 fullShare x0 ∗ owns (c : Thread nD τ) arg3 fullShare x1
            ∗ owns (c : Thread nD τ) arg4 fullShare (k0_pay12 x0 x1)
            ∗ owns (c : Thread nD τ) arg5 fullShare (k0_pay1 (k0_pay11 x0 x1))
            ∗ owns (c : Thread nD τ) arg6 fullShare (k0_pay2 (k0_pay7 x0 x1))
            ∗ owns (c : Thread nD τ) arg7 fullShare (k0_pay3 (k0_pay10 x0 x1))
            ∗ owns (c : Thread nD τ) arg8 fullShare (k0_pay5 (k0_pay6 x0 x1) (if firstBlock i then k0_pay4 else x6))) -∗ K ⟨⟩))
      ⊢ wp frame (wpE (defs₀ (F := F)) 𝒱₀ (c : Thread nD τ) none) Set.univ
          (cc0__gate_body i arg2 harg2 arg3 harg3 arg4 harg4 arg5 harg5 arg6 harg6 arg7 harg7 arg8 harg8) K := by
  simp only [cc0__gate_body_eq_skeleton]; unfold cc0__gate_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%f6, %hf6, H6⟩, Hk⟩
  obtain rfl := harg2.eq_unread hf0; obtain rfl := harg3.eq_unread hf1; obtain rfl := harg8.eq_unread hf6
  have hx0 : arg2.view.readAt (Elt F) (Rect.unit (s := S1x4096x1024) ![0, 0, 0] S1x4096x1024.size inb_S1x4096x1024_S1x4096x1024_0_0_0).toLoadRect
      (harg2.unread x0) = x0 := (View.readAt_full _ _ _).trans hf0
  have hx1 : arg3.view.readAt (Elt F) (Rect.unit (s := S64x1024) ![0, 0] S64x1024.size inb_S64x1024_S64x1024_0_0).toLoadRect
      (harg3.unread x1) = x1 := (View.readAt_full _ _ _).trans hf1
  have hx6 : arg8.view.readAt (Elt F) (Rect.unit (s := S1x64x1) ![0, 0, 0] S1x64x1.size inb_S1x64x1_S1x64x1_0_0_0).toLoadRect
      (harg8.unread x6) = x6 := (View.readAt_full _ _ _).trans hf6
  by_cases hc0 : firstBlock i
  · sl_exec (disch := first | sl_exact hc0)
    sl_step
    iapply Hk
    isplitl [H0]; · iexists _; isplitr; swap; (iexact H0); ipureintro; exact hf0
    isplitl [H1]; · iexists _; isplitr; swap; (iexact H1); ipureintro; exact hf1
    isplitl [H2]; · iexists _; isplitr; swap; (iexact H2); ipureintro; refine (View.read_writes_full _ _ _ _ _).trans ?_; rfl
    isplitl [H3]; · iexists _; isplitr; swap; (iexact H3); ipureintro; refine (View.read_writes_full _ _ _ _ _).trans ?_; rfl
    isplitl [H4]; · iexists _; isplitr; swap; (iexact H4); ipureintro; refine (View.read_writes_full _ _ _ _ _).trans ?_; rfl
    isplitl [H5]; · iexists _; isplitr; swap; (iexact H5); ipureintro; refine (View.read_writes_full _ _ _ _ _).trans ?_; rfl
    iexists _; isplitr; swap; (iexact H6); ipureintro
    rw [if_pos hc0]
    refine (View.read_writes_full _ _ _ _ _).trans (congrArg (k0_pay5 (k0_pay6 x0 x1)) ?_)
    exact View.readCov_full _ _ _ _ _
  · sl_exec (disch := first | sl_exact hc0)
    sl_step
    iapply Hk
    isplitl [H0]; · iexists _; isplitr; swap; (iexact H0); ipureintro; exact hf0
    isplitl [H1]; · iexists _; isplitr; swap; (iexact H1); ipureintro; exact hf1
    isplitl [H2]; · iexists _; isplitr; swap; (iexact H2); ipureintro; refine (View.read_writes_full _ _ _ _ _).trans ?_; rfl
    isplitl [H3]; · iexists _; isplitr; swap; (iexact H3); ipureintro; refine (View.read_writes_full _ _ _ _ _).trans ?_; rfl
    isplitl [H4]; · iexists _; isplitr; swap; (iexact H4); ipureintro; refine (View.read_writes_full _ _ _ _ _).trans ?_; rfl
    isplitl [H5]; · iexists _; isplitr; swap; (iexact H5); ipureintro; refine (View.read_writes_full _ _ _ _ _).trans ?_; rfl
    iexists _; isplitr; swap; (iexact H6); ipureintro
    rw [if_neg hc0]
    refine (View.read_writes_full _ _ _ _ _).trans ?_; rfl

/-- The final kernel's body: from the partial sums `x0` it leaves their scaled total. -/
theorem reduce_triple (c : Dev nD)
    (arg0 : Memref sig .tc .vmem S32x16 .f32) (harg0 : arg0.IsWhole) (arg1 : Memref sig .tc .vmem S1x1 .f32) (harg1 : arg1.IsWhole)
    (x0 : Vec F S32x16 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k2_pay1 x0)) -∗ K ⟨⟩))
      ⊢ wp frame (wpE (defs₀ (F := F)) 𝒱₀ (c : Thread nD τ) none) Set.univ (cc2__reduce_body arg0 harg0 arg1 harg1) K := by
  simp only [cc2__reduce_body_eq_skeleton]; unfold cc2__reduce_body_skel
  unfold owns
  iintro ⟨⟨%f0, %hf0, H0⟩, ⟨%d1, %f1, -, H1⟩, Hk⟩
  obtain rfl := harg0.eq_unread hf0
  have hx0 : arg0.view.readAt (Elt F) (Rect.unit (s := S32x16) ![0, 0] S32x16.size inb_S32x16_S32x16_0_0).toLoadRect
      (harg0.unread x0) = x0 := (View.readAt_full _ _ _).trans hf0
  sl_exec
  sl_step
  iapply Hk
  isplitl [H0]; · iexists _; isplitr; swap; (iexact H0); ipureintro; exact hf0
  iexists _; isplitr; swap; (iexact H1); ipureintro
  refine (View.read_writes_full _ _ _ _ _).trans ?_; rfl

end Cert.Proof.Moe

end
-- ==== Proof.Regions.lean ====
/-
  The two TensorCore regions of @main — the gate and the final sum — as regions the pipeline library runs: what each
  window's buffer holds after the body at every grid point, the body obligations, and the entry and exit states.
-/
module

public import proofs.«01_k».proof.Proof.GateBody
public import Idealize.ShloMosaic.Lib.Pipeline.RegionArraysS

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

variable (V W : Dev nD → Valuation τ sig (Elt F))

/-! ## What the gate leaves -/

/-- The block of hidden states point `t` reads. -/
def hsBlk (d : Dev nD) (t : Fin cfg0.N) : Vec F S1x4096x1024 .f32 := ((cfg0.win 0).blk t).view.read (Elt F) (V d (Proc.devRef .tc main_arg0))
/-- The block of weights it reads (all of them). -/
def wtBlk (d : Dev nD) (t : Fin cfg0.N) : Vec F S64x1024 .f32 := ((cfg0.win 1).blk t).view.read (Elt F) (V d (Proc.devRef .tc main_arg1))

/-- The accumulator after point `n`: the block's row sums added to zeros at an even point, to the accumulator before at an odd one. -/
def accAt (d : Dev nD) : (n : ℕ) → n < cfg0.N → Vec F S1x64x1 .f32
  | 0, h => k0_pay5 (k0_pay6 (hsBlk V d ⟨0, h⟩) (wtBlk V d ⟨0, h⟩)) k0_pay4
  | n + 1, h => k0_pay5 (k0_pay6 (hsBlk V d ⟨n + 1, h⟩) (wtBlk V d ⟨n + 1, h⟩))
      (if (n + 1) % 2 = 0 then k0_pay4 else accAt d n (Nat.lt_of_succ_lt h))

theorem accAt_even (d : Dev nD) (t : Fin cfg0.N) (h : t.val % 2 = 0) :
    accAt V d t.val t.isLt = k0_pay5 (k0_pay6 (hsBlk V d t) (wtBlk V d t)) k0_pay4 := by
  obtain ⟨n, hn⟩ := t
  cases n with
  | zero => rfl
  | succ n => simp only [accAt]; rw [if_pos h]

theorem accAt_odd (d : Dev nD) (t : Fin cfg0.N) (h : ¬t.val % 2 = 0) :
    accAt V d t.val t.isLt = k0_pay5 (k0_pay6 (hsBlk V d t) (wtBlk V d t)) (accAt V d (t.val - 1) (Nat.lt_of_le_of_lt (Nat.sub_le _ _) t.isLt)) := by
  obtain ⟨n, hn⟩ := t
  cases n with
  | zero => exact absurd rfl h
  | succ n => simp only [accAt]; rw [if_neg h]; rfl

/-- What a TensorCore may have recorded before call `n`: waits at or below the call's level. -/
def recBelow (d : Dev nD) (n : ℕ) : Set (SemLoc sig × HIx 1) := {q | (K (F := F)).lev (T d, q.1) q.2 ≤ 8 * n}

/-- The gate's proof data over the contents `V` its region is entered with. -/
def dat0 (d : Dev nD) : Dat τ (Elt F) (HIx 1) ℕ UU ℕ cfg0 d where
  A w := V d (Proc.devRef .tc (Pipeline.arrRef spec0 w))
  after w t := match w with
    | ⟨0, _⟩ => hsBlk V d t
    | ⟨1, _⟩ => wtBlk V d t
    | ⟨2, _⟩ => k0_pay12 (hsBlk V d t) (wtBlk V d t)
    | ⟨3, _⟩ => k0_pay1 (k0_pay11 (hsBlk V d t) (wtBlk V d t))
    | ⟨4, _⟩ => k0_pay2 (k0_pay7 (hsBlk V d t) (wtBlk V d t))
    | ⟨5, _⟩ => k0_pay3 (k0_pay10 (hsBlk V d t) (wtBlk V d t))
    | ⟨6, _⟩ => accAt V d t.val t.isLt
    | ⟨_ + 7, h⟩ => absurd h (Nat.not_lt_of_ge (Nat.le_add_left 7 _))
  Φ _ := Pipeline.scopedRest spec0 d
  q _ := fullShare
  owed _ := (K (F := F)).Otc d 0
  recorded _ := recBelow (F := F) d 0

/-- The block of partial sums the final sum reads (all of them). -/
def partBlk (d : Dev nD) (t : Fin cfg2.N) : Vec F S32x16 .f32 := ((cfg2.win 0).blk t).view.read (Elt F) (W d (Proc.devRef .tc main_v4))

/-- The final sum's proof data over the contents `W` its region is entered with. -/
def dat1 (d : Dev nD) : Dat τ (Elt F) (HIx 1) ℕ UU ℕ cfg2 d where
  A w := W d (Proc.devRef .tc (Pipeline.arrRef spec2 w))
  after w t := match w with
    | ⟨0, _⟩ => partBlk W d t
    | ⟨1, _⟩ => k2_pay1 (partBlk W d t)
    | ⟨_ + 2, h⟩ => absurd h (Nat.not_lt_of_ge (Nat.le_add_left 2 _))
  Φ _ := Pipeline.scopedRest spec2 d
  q _ := fullShare
  owed _ := (K (F := F)).Otc d 1
  recorded _ := recBelow (F := F) d 1

/-- No pipeline prefetches a table: the one admissible choice. -/
abbrev adm : (p : Fin 2) → (pcfgs (F := F) p).Adm := fun p => (cfgs p).toPCfg_adm

def pdats : (p : Fin 2) → (d : Dev nD) → Dat τ (Elt F) (HIx 1) ℕ UU ℕ (Pipeline.pin (pcfgs (F := F)) adm p) d
  | 0 => dat0 V
  | 1 => dat1 W

/-! ## The gate's body obligation -/

theorem dat0_after0 (d : Dev nD) (t : Fin cfg0.N) : (dat0 V d).after 0 t = hsBlk V d t := by dsimp only [dat0]
theorem dat0_after1 (d : Dev nD) (t : Fin cfg0.N) : (dat0 V d).after 1 t = wtBlk V d t := by dsimp only [dat0]
theorem dat0_after2 (d : Dev nD) (t : Fin cfg0.N) : (dat0 V d).after 2 t = k0_pay12 (hsBlk V d t) (wtBlk V d t) := by dsimp only [dat0]
theorem dat0_after3 (d : Dev nD) (t : Fin cfg0.N) : (dat0 V d).after 3 t = k0_pay1 (k0_pay11 (hsBlk V d t) (wtBlk V d t)) := by dsimp only [dat0]
theorem dat0_after4 (d : Dev nD) (t : Fin cfg0.N) : (dat0 V d).after 4 t = k0_pay2 (k0_pay7 (hsBlk V d t) (wtBlk V d t)) := by dsimp only [dat0]
theorem dat0_after5 (d : Dev nD) (t : Fin cfg0.N) : (dat0 V d).after 5 t = k0_pay3 (k0_pay10 (hsBlk V d t) (wtBlk V d t)) := by dsimp only [dat0]
theorem dat0_after6 (d : Dev nD) (t : Fin cfg0.N) : (dat0 V d).after 6 t = accAt V d t.val t.isLt := by dsimp only [dat0]

theorem dat0_before0 (d : Dev nD) (t : Fin cfg0.N) (x) : (dat0 V d).before 0 t x = hsBlk V d t :=
  (Dat.before_in_eq_fetched _ 0 rfl (fun _ => rfl) (fun _ _ _ => rfl) (fun t => by rw [dat0_after0]; rfl) t x).trans rfl
theorem dat0_before1 (d : Dev nD) (t : Fin cfg0.N) (x) : (dat0 V d).before 1 t x = wtBlk V d t :=
  (Dat.before_in_eq_fetched _ 1 rfl (fun _ => rfl) (fun _ _ _ => rfl) (fun t => by rw [dat0_after1]; rfl) t x).trans rfl

/-- Before an odd point the accumulator's buffer holds what the point before left. -/
theorem dat0_before6 (d : Dev nD) (t : Fin cfg0.N) (h : ¬t.val % 2 = 0) (x) :
    (dat0 V d).before 6 t x = accAt V d (t.val - 1) (Nat.lt_of_le_of_lt (Nat.sub_le _ _) t.isLt) := by
  rw [Dat.before_out_kept _ 6 rfl t (by omega)
    (Bool.eq_false_iff.mpr fun h' => by have := (flush0_6 _).mp h'; dsimp only at this; omega) (fun _ => rfl) (fun _ _ => rfl), dat0_after6]

/-- What the gate's body is entered with at a point, -/
def gatePre (d : Dev nD) (t : Fin cfg0.N) : sProp 𝕄 :=
  iprop((dat0 V d).Φ t.castSucc ∗ (dat0 V d).owesAt none t.castSucc
    ∗ (∃ x, owns (d : Thread nD τ) (win0_0.stage (cfg0.slots t 0)) fullShare ((dat0 V d).before 0 t x))
    ∗ (∃ x, owns (d : Thread nD τ) (win0_1.stage (cfg0.slots t 1)) fullShare ((dat0 V d).before 1 t x))
    ∗ (∃ x, owns (d : Thread nD τ) (win0_2.stage (cfg0.slots t 2)) fullShare ((dat0 V d).before 2 t x))
    ∗ (∃ x, owns (d : Thread nD τ) (win0_3.stage (cfg0.slots t 3)) fullShare ((dat0 V d).before 3 t x))
    ∗ (∃ x, owns (d : Thread nD τ) (win0_4.stage (cfg0.slots t 4)) fullShare ((dat0 V d).before 4 t x))
    ∗ (∃ x, owns (d : Thread nD τ) (win0_5.stage (cfg0.slots t 5)) fullShare ((dat0 V d).before 5 t x))
    ∗ (∃ x, owns (d : Thread nD τ) (win0_6.stage (cfg0.slots t 6)) fullShare ((dat0 V d).before 6 t x)))
/-- and what it leaves. -/
def gatePost (d : Dev nD) (t : Fin cfg0.N) : sProp 𝕄 :=
  iprop((dat0 V d).Φ t.succ ∗ (dat0 V d).owesAt none t.succ
    ∗ owns (d : Thread nD τ) (win0_0.stage (cfg0.slots t 0)) fullShare ((dat0 V d).after 0 t)
    ∗ owns (d : Thread nD τ) (win0_1.stage (cfg0.slots t 1)) fullShare ((dat0 V d).after 1 t)
    ∗ owns (d : Thread nD τ) (win0_2.stage (cfg0.slots t 2)) fullShare ((dat0 V d).after 2 t)
    ∗ owns (d : Thread nD τ) (win0_3.stage (cfg0.slots t 3)) fullShare ((dat0 V d).after 3 t)
    ∗ owns (d : Thread nD τ) (win0_4.stage (cfg0.slots t 4)) fullShare ((dat0 V d).after 4 t)
    ∗ owns (d : Thread nD τ) (win0_5.stage (cfg0.slots t 5)) fullShare ((dat0 V d).after 5 t)
    ∗ owns (d : Thread nD τ) (win0_6.stage (cfg0.slots t 6)) fullShare ((dat0 V d).after 6 t))

theorem gate_at (d : Dev nD) (t : Fin cfg0.N) :
    gatePre V d t ⊢ wp frame (wpE (defs₀ (F := F)) 𝒱₀ (d : Thread nD τ) none) Set.univ (bodyAt0 t) fun _ => gatePost V d t := by
  unfold gatePre gatePost bodyAt0
  simp only [dat0_before0, dat0_before1]
  rw [show (dat0 V d).Φ t.succ = (dat0 V d).Φ t.castSucc from rfl,
    show (dat0 V d).owesAt none t.succ = (dat0 V d).owesAt none t.castSucc from rfl,
    dat0_after0, dat0_after1, dat0_after2, dat0_after3, dat0_after4, dat0_after5, dat0_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (gate_triple d (grid0.coords t) _ _ _ _ _ _ _ _ _ _ _ _ _ _ (hsBlk V d t) (wtBlk V d t) ((dat0 V d).before 6 t d6) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  iintro ⟨H0, H1, H2, H3, H4, H5, H6⟩
  have hacc : k0_pay5 (k0_pay6 (hsBlk V d t) (wtBlk V d t)) (if firstBlock (grid0.coords t) then k0_pay4 else (dat0 V d).before 6 t d6)
      = accAt V d t.val t.isLt := by
    by_cases h : t.val % 2 = 0
    · rw [if_pos ((firstBlock_iff t).mpr h), accAt_even V d t h]
    · rw [if_neg (fun h' => h ((firstBlock_iff t).mp h')), dat0_before6 V d t h, accAt_odd V d t h]
  rw [hacc]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem gate_obligation (d : Dev nD) : BodyObligation (dat0 V d) (defs₀ (F := F)) 𝒱₀ none Set.univ := fun t => by
  rw [bigSep_W0, bigSep_W0]
  exact triple_restated (gate_at V d t) rfl .rfl fun _ => .rfl

/-! ## The final sum's body obligation -/

theorem dat1_after0 (d : Dev nD) (t : Fin cfg2.N) : (dat1 W d).after 0 t = partBlk W d t := by dsimp only [dat1]
theorem dat1_after1 (d : Dev nD) (t : Fin cfg2.N) : (dat1 W d).after 1 t = k2_pay1 (partBlk W d t) := by dsimp only [dat1]
theorem dat1_before0 (d : Dev nD) (t : Fin cfg2.N) (x) : (dat1 W d).before 0 t x = partBlk W d t :=
  (Dat.before_in_eq_fetched _ 0 rfl (fun _ => rfl) (fun _ _ _ => rfl) (fun t => by rw [dat1_after0]; rfl) t x).trans rfl

def sumPre (d : Dev nD) (t : Fin cfg2.N) : sProp 𝕄 :=
  iprop((dat1 W d).Φ t.castSucc ∗ (dat1 W d).owesAt none t.castSucc
    ∗ (∃ x, owns (d : Thread nD τ) (win2_0.stage (cfg2.slots t 0)) fullShare ((dat1 W d).before 0 t x))
    ∗ (∃ x, owns (d : Thread nD τ) (win2_1.stage (cfg2.slots t 1)) fullShare ((dat1 W d).before 1 t x)))
def sumPost (d : Dev nD) (t : Fin cfg2.N) : sProp 𝕄 :=
  iprop((dat1 W d).Φ t.succ ∗ (dat1 W d).owesAt none t.succ
    ∗ owns (d : Thread nD τ) (win2_0.stage (cfg2.slots t 0)) fullShare ((dat1 W d).after 0 t)
    ∗ owns (d : Thread nD τ) (win2_1.stage (cfg2.slots t 1)) fullShare ((dat1 W d).after 1 t))

theorem sum_at (d : Dev nD) (t : Fin cfg2.N) :
    sumPre W d t ⊢ wp frame (wpE (defs₀ (F := F)) 𝒱₀ (d : Thread nD τ) none) Set.univ (bodyAt2 t) fun _ => sumPost W d t := by
  unfold sumPre sumPost bodyAt2
  simp only [dat1_before0]
  rw [show (dat1 W d).Φ t.succ = (dat1 W d).Φ t.castSucc from rfl,
    show (dat1 W d).owesAt none t.succ = (dat1 W d).owesAt none t.castSucc from rfl, dat1_after0, dat1_after1]
  iintro ⟨HΦ, Ho, ⟨%d0, H0⟩, ⟨%d1, H1⟩⟩
  iapply (reduce_triple d _ _ _ _ (partBlk W d t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem sum_obligation (d : Dev nD) : BodyObligation (dat1 W d) (defs₀ (F := F)) 𝒱₀ none Set.univ := fun t => by
  rw [bigSep_W2, bigSep_W2]
  exact triple_restated (sum_at W d t) rfl .rfl fun _ => .rfl

/-! ## The two regions -/

theorem kit0 : Pipeline.PLaunchFacts (nD := nD) (τ := τ) (pcfgs (F := F)) 0 := launch0.toP
theorem kit1 : Pipeline.PLaunchFacts (nD := nD) (τ := τ) (pcfgs (F := F)) 1 := launch2.toP
theorem inj0 : Function.Injective (Pipeline.arrRef cfg0.spec) := (kit0 (F := Bits)).win.arr_inj
theorem inj1 : Function.Injective (Pipeline.arrRef cfg2.spec) := (kit1 (F := Bits)).win.arr_inj

/-- The unscoped buffers @main holds throughout. -/
abbrev ucS : Finset (DevRef τ sig) := Pipeline.ucRefs τ sig

/-- What a region is entered from: the unscoped buffers at `X`, and what the TensorCore owes before call `n`. -/
def atCall (n : ℕ) (X : Dev nD → Valuation τ sig (Elt F)) (d : Dev nD) : sProp 𝕄 :=
  iprop(StableHlo.held (T d) ucS (X d) ∗ ∃ Wd, ⌜(K (F := F)).WBelow (T d) Wd (8 * n)⌝ ∗ owes (T d) ((K (F := F)).Otc d n) Wd)

theorem cut (n : ℕ) (p : Fin 2) : Pipeline.LevelCut (pcfgs (F := F)) adm (none : HIx 1) ((K (F := F)).L (nD := nD)) (K (F := F)).lev p
    (fun d : Dev nD => (K (F := F)).Otc d n) (fun _ => 8 * n) where
  hι _ _ _ := Finset.mem_univ _
  hιb _ _ _ := Nat.zero_le _
  hD c g i h := ⟨Finset.mem_univ _, (K (F := F)).lev_of_Otc_pos h⟩

theorem waits_below (n : ℕ) (d : Dev nD) (p : Fin 2) (q) (h : q ∈ (Pipeline.pin (pcfgs (F := F)) adm p).waitPairs (none : HIx 1)) : q ∈ recBelow (F := F) d n := by
  obtain ⟨w, s, rfl⟩ := h
  exact Nat.zero_le _

theorem dat0_share (d : Dev nD) (w) : (dat0 V d).share w = fullShare := Dat.share_full _ (fun _ => rfl) w
theorem spec0_sub : Pipeline.arrRefs (τ := τ) spec0 ⊆ ucS := Pipeline.arrRefs_sub_ucRefs spec0 (by decide)

/-- Region 0: entered from the unscoped buffers at `V`, left with the windows' arrays at what the pipeline leaves. -/
def gateRegion : Pipeline.RegionSeg (pcfgs (F := F)) adm (pdats V W) (none : HIx 1) (defs₀ (F := F)) 𝒱₀ (K (F := F)).L (K (F := F)).lev 0 where
  win := (kit0 (F := F)).win.to₀
  block_pos := (kit0 (F := F)).block_pos
  stage_whole := (kit0 (F := F)).stage_whole
  K := PEmpty
  osem k := k.elim
  ho := Pipeline.OwnSemFacts.none _
  hbody d := (gate_obligation V d).loose
  hwaits d := Pipeline.cellsWaits_of_cut (Pipeline.pin (pcfgs (F := F)) adm) (pdats V W) none 0 d (8 * 0) ((K (F := F)).Otc d 0) (fun _ => rfl)
    ((cut (F := F) 0 0).hι d) ((cut (F := F) 0 0).hιb d) ((cut (F := F) 0 0).hD d)
  pre := atCall 0 V
  post := atCall 0 fun d => Pipeline.afterRegion (dat0 V d) (V d)
  X _ := iprop(emp)
  Y _ := iprop(emp)
  Z d := StableHlo.held (T d) (ucS \ Pipeline.arrRefs spec0) (V d)
  hentry d := by
    rw [Pipeline.ownSems0_none, Pipeline.prefHeld_of_none _ rfl]
    unfold atCall
    rw [StableHlo.held_sub_split (T d) spec0_sub (V d), Pipeline.arrays_held (pcfgs (F := F)) adm (pdats V W) 0 kit0 d (dat0_share V d)
      ((pdats V W 0 d).arrAt · 0) (V d) (fun _ => rfl)]
    iintro ⟨⟨⟨Ha, Hz⟩, %Wd, %hW, HO⟩, -, -⟩
    imodintro
    isplitl [Ha]; · iexact Ha
    isplitr; · iempintro
    isplitl [HO]
    · unfold Dat.owesAt Pipeline.owesWithin
      iexists Wd; isplitr; · ipureintro; exact fun q hq => Or.inl (hW q hq)
      iexact HO
    isplitr; · iempintro
    iexact Hz
  hin d := by
    show iprop(_ ∗ _ ∗ Pipeline.scopedRest spec0 d) ⊢ Pipeline.scopedRest spec0 d
    iintro ⟨-, -, H⟩; iexact H
  hout d := by
    rw [Pipeline.ownSems0_none]
    show Pipeline.scopedRest spec0 d ⊢ iprop(emp ∗ emp ∗ Pipeline.scopedRest spec0 d)
    iintro H
    isplitr; · iempintro
    isplitr; · iempintro
    iexact H
  hexit d := by
    have hX_dat0 : ∀ w : Fin cfg0.W, (dat0 V d).arrAt w cfg0.N = Pipeline.afterRegion (dat0 V d) (V d) (Proc.devRef .tc (Pipeline.arrRef spec0 w)) :=
      fun w => (Pipeline.afterRegion_arr (dat0 V d) (V d) inj0 w).symm
    unfold atCall
    rw [StableHlo.held_sub_split (T d) spec0_sub (Pipeline.afterRegion (dat0 V d) (V d)),
      Pipeline.arrays_held (pcfgs (F := F)) adm (pdats V W) 0 kit0 d (dat0_share V d)
        ((pdats V W 0 d).arrAt · (Pipeline.pin (pcfgs (F := F)) adm 0).N) (Pipeline.afterRegion (dat0 V d) (V d))
        hX_dat0,
      StableHlo.held_congr (T d) (S := ucS \ Pipeline.arrRefs spec0) (V := Pipeline.afterRegion (dat0 V d) (V d)) (V' := V d)
        (Pipeline.afterRegion_off (dat0 V d) (V d) ucS)]
    iintro ⟨Ha, HO, -, Hz⟩
    imodintro
    isplitl [Ha Hz]
    · isplitl [Ha]; · iexact Ha
      iexact Hz
    unfold Dat.owesAt Pipeline.owesWithin
    icases HO with ⟨%Wd, %hW, HO⟩
    iexists Wd; isplitr
    · ipureintro; exact fun q hq => (hW hq).elim id (waits_below 0 d 0 q)
    iexact HO

theorem dat1_share (d : Dev nD) (w) : (dat1 W d).share w = fullShare := Dat.share_full _ (fun _ => rfl) w
theorem spec2_sub : Pipeline.arrRefs (τ := τ) spec2 ⊆ ucS := Pipeline.arrRefs_sub_ucRefs spec2 (by decide)

/-- Region 1: entered from the unscoped buffers at `W`, left with the windows' arrays at what the pipeline leaves. -/
def sumRegion : Pipeline.RegionSeg (pcfgs (F := F)) adm (pdats V W) (none : HIx 1) (defs₀ (F := F)) 𝒱₀ (K (F := F)).L (K (F := F)).lev 1 where
  win := (kit1 (F := F)).win.to₀
  block_pos := (kit1 (F := F)).block_pos
  stage_whole := (kit1 (F := F)).stage_whole
  K := PEmpty
  osem k := k.elim
  ho := Pipeline.OwnSemFacts.none _
  hbody d := (sum_obligation W d).loose
  hwaits d := Pipeline.cellsWaits_of_cut (Pipeline.pin (pcfgs (F := F)) adm) (pdats V W) none 1 d (8 * 1) ((K (F := F)).Otc d 1) (fun _ => rfl)
    ((cut (F := F) 1 1).hι d) ((cut (F := F) 1 1).hιb d) ((cut (F := F) 1 1).hD d)
  pre := atCall 1 W
  post := atCall 1 fun d => Pipeline.afterRegion (dat1 W d) (W d)
  X _ := iprop(emp)
  Y _ := iprop(emp)
  Z d := StableHlo.held (T d) (ucS \ Pipeline.arrRefs spec2) (W d)
  hentry d := by
    rw [Pipeline.ownSems0_none, Pipeline.prefHeld_of_none _ rfl]
    unfold atCall
    rw [StableHlo.held_sub_split (T d) spec2_sub (W d), Pipeline.arrays_held (pcfgs (F := F)) adm (pdats V W) 1 kit1 d (dat1_share W d)
      ((pdats V W 1 d).arrAt · 0) (W d) (fun _ => rfl)]
    iintro ⟨⟨⟨Ha, Hz⟩, %Wd, %hW, HO⟩, -, -⟩
    imodintro
    isplitl [Ha]; · iexact Ha
    isplitr; · iempintro
    isplitl [HO]
    · unfold Dat.owesAt Pipeline.owesWithin
      iexists Wd; isplitr; · ipureintro; exact fun q hq => Or.inl (hW q hq)
      iexact HO
    isplitr; · iempintro
    iexact Hz
  hin d := by
    show iprop(_ ∗ _ ∗ Pipeline.scopedRest spec2 d) ⊢ Pipeline.scopedRest spec2 d
    iintro ⟨-, -, H⟩; iexact H
  hout d := by
    rw [Pipeline.ownSems0_none]
    show Pipeline.scopedRest spec2 d ⊢ iprop(emp ∗ emp ∗ Pipeline.scopedRest spec2 d)
    iintro H
    isplitr; · iempintro
    isplitr; · iempintro
    iexact H
  hexit d := by
    have hX_dat1 : ∀ w : Fin cfg2.W, (dat1 W d).arrAt w cfg2.N = Pipeline.afterRegion (dat1 W d) (W d) (Proc.devRef .tc (Pipeline.arrRef spec2 w)) :=
      fun w => (Pipeline.afterRegion_arr (dat1 W d) (W d) inj1 w).symm
    unfold atCall
    rw [StableHlo.held_sub_split (T d) spec2_sub (Pipeline.afterRegion (dat1 W d) (W d)),
      Pipeline.arrays_held (pcfgs (F := F)) adm (pdats V W) 1 kit1 d (dat1_share W d)
        ((pdats V W 1 d).arrAt · (Pipeline.pin (pcfgs (F := F)) adm 1).N) (Pipeline.afterRegion (dat1 W d) (W d))
        hX_dat1,
      StableHlo.held_congr (T d) (S := ucS \ Pipeline.arrRefs spec2) (V := Pipeline.afterRegion (dat1 W d) (W d)) (V' := W d)
        (Pipeline.afterRegion_off (dat1 W d) (W d) ucS)]
    iintro ⟨Ha, HO, -, Hz⟩
    imodintro
    isplitl [Ha Hz]
    · isplitl [Ha]; · iexact Ha
      iexact Hz
    unfold Dat.owesAt Pipeline.owesWithin
    icases HO with ⟨%Wd, %hW, HO⟩
    iexists Wd; isplitr
    · ipureintro; exact fun q hq => (hW hq).elim id (waits_below 1 d 1 q)
    iexact HO

end Cert.Proof.Moe
end
-- ==== Proof.Main.lean ====
/-
  @main on the TensorCore: the gate's region, three reshapes, the SparseCore call, the final sum's region, and the
  host operations after it; and the launch. All of it at any float instance: the arrays' contents at the end are named
  as a function of the launch contents.
-/
module

public import proofs.«01_k».proof.Proof.Call
public import proofs.«01_k».proof.Proof.Regions
public import Idealize.ShloMosaic.Lib.SparseCore.Quiescent
public import Idealize.ShloMosaic.Lib.Pipeline.Frame

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- Before the SparseCore call: the two id planes and the sums, laid flat. -/
def ops1 : List (HloOp τ sig (Elt F)) :=
  [StableHlo.reshape main_v0_0 main_v1 (rfl : (.i32 : EltTy) = .i32) shapeCasts_S4x1x8192_S32768,
   StableHlo.reshape main_v0_1 main_v2 (rfl : (.i32 : EltTy) = .i32) shapeCasts_S4x1x8192_S32768,
   StableHlo.reshape main_v0_4 main_v3 (rfl : (.f32 : EltTy) = .f32) shapeCasts_S4x64x1_S256]

/-- After the final sum: the scalar result, and the ids and weights laid side by side. -/
def ops2 : List (HloOp τ sig (Elt F)) :=
  [StableHlo.reshape main_v5 main_v6 (rfl : (.f32 : EltTy) = .f32) shapeCasts_S1x1_S_,
   StableHlo.reshape main_v0_0 main_v7 (rfl : (.i32 : EltTy) = .i32) shapeCasts_S4x1x8192_S4x8192,
   StableHlo.reshape main_v0_1 main_v8 (rfl : (.i32 : EltTy) = .i32) shapeCasts_S4x1x8192_S4x8192,
   StableHlo.unary main_v7 main_v9 (broadcastInDim S4x8192x1 ![0, 1] bcast_S4x8192_S4x8192x1_0_1 : (⟨S4x8192, .i32⟩ : BufTy).Contents (Elt F) → (⟨S4x8192x1, .i32⟩ : BufTy).Contents (Elt F)),
   StableHlo.unary main_v8 main_v10 (broadcastInDim S4x8192x1 ![0, 1] bcast_S4x8192_S4x8192x1_0_1 : (⟨S4x8192, .i32⟩ : BufTy).Contents (Elt F) → (⟨S4x8192x1, .i32⟩ : BufTy).Contents (Elt F)),
   StableHlo.binary main_v9 main_v10 main_v11 ((fun a b => concatenate S4x8192x2 2 [⟨S4x8192x1, a⟩, ⟨S4x8192x1, b⟩] concatenates_S4x8192x1_S4x8192x1_S4x8192x2_d2) : (⟨S4x8192x1, .i32⟩ : BufTy).Contents (Elt F) → (⟨S4x8192x1, .i32⟩ : BufTy).Contents (Elt F) → (⟨S4x8192x2, .i32⟩ : BufTy).Contents (Elt F)),
   StableHlo.reshape main_v0_2 main_v12 (rfl : (.f32 : EltTy) = .f32) shapeCasts_S4x1x8192_S4x8192,
   StableHlo.reshape main_v0_3 main_v13 (rfl : (.f32 : EltTy) = .f32) shapeCasts_S4x1x8192_S4x8192,
   StableHlo.unary main_v12 main_v14 (broadcastInDim S4x8192x1 ![0, 1] bcast_S4x8192_S4x8192x1_0_1 : (⟨S4x8192, .f32⟩ : BufTy).Contents (Elt F) → (⟨S4x8192x1, .f32⟩ : BufTy).Contents (Elt F)),
   StableHlo.unary main_v13 main_v15 (broadcastInDim S4x8192x1 ![0, 1] bcast_S4x8192_S4x8192x1_0_1 : (⟨S4x8192, .f32⟩ : BufTy).Contents (Elt F) → (⟨S4x8192x1, .f32⟩ : BufTy).Contents (Elt F)),
   StableHlo.binary main_v14 main_v15 main_v16 ((fun a b => concatenate S4x8192x2 2 [⟨S4x8192x1, a⟩, ⟨S4x8192x1, b⟩] concatenates_S4x8192x1_S4x8192x1_S4x8192x2_d2) : (⟨S4x8192x1, .f32⟩ : BufTy).Contents (Elt F) → (⟨S4x8192x1, .f32⟩ : BufTy).Contents (Elt F) → (⟨S4x8192x2, .f32⟩ : BufTy).Contents (Elt F))]

/-- A region, entered. -/
def enter (p : Fin 2) : Prog (TpuEff nD τ sig (Elt F) (SparseCore.Sig (ΛP (F := F)) 1) .tc) PUnit :=
  Prog.lift (.customCall (SparseCore.inner (Pipeline.entry p)) ())

/-- The region as the pipelines' own table has it. -/
def region (p : Fin 2) : Prog (TpuEff nD τ sig (Elt F) (ΛP (F := F)) .tc) PUnit :=
  .op (.customCall (Pipeline.entry p) ()) fun _ => .ret ⟨⟩

theorem enter_lift (p : Fin 2) : enter (F := F) p = SparseCore.liftProg (region p) := rfl

theorem main_eq (d : Dev nD) : main (F := F) d
    = (enter 0 >>= fun _ => StableHlo.seq ops1 >>= fun _ => sc.run d 0 >>= fun _ => enter 1 >>= fun _ => StableHlo.seq ops2 >>= fun _ => pure ⟨⟩) := by
  simp only [StableHlo.seq_bind_seqK]
  rfl

theorem ops1_sub : ∀ op ∈ (ops1 : List (HloOp τ sig (Elt F))), op.bufs ⊆ ucS := fun op h =>
  Pipeline.sub_ucRefs op (List.forall_iff_forall_mem.mp
    (show (ops1 : List (HloOp τ sig (Elt F))).Forall fun op => op.bufs ⊆ StableHlo.tcRefs τ sig from
      ⟨StableHlo.reshape_bufs_sub .., StableHlo.reshape_bufs_sub .., StableHlo.reshape_bufs_sub ..⟩) op h)
theorem ops2_sub : ∀ op ∈ (ops2 : List (HloOp τ sig (Elt F))), op.bufs ⊆ ucS := fun op h =>
  Pipeline.sub_ucRefs op (List.forall_iff_forall_mem.mp
    (show (ops2 : List (HloOp τ sig (Elt F))).Forall fun op => op.bufs ⊆ StableHlo.tcRefs τ sig from
      ⟨StableHlo.reshape_bufs_sub .., StableHlo.reshape_bufs_sub .., StableHlo.reshape_bufs_sub .., StableHlo.unary_bufs_sub ..,
        StableHlo.unary_bufs_sub .., StableHlo.binary_bufs_sub .., StableHlo.reshape_bufs_sub .., StableHlo.reshape_bufs_sub ..,
        StableHlo.unary_bufs_sub .., StableHlo.unary_bufs_sub .., StableHlo.binary_bufs_sub ..⟩) op h)
theorem ops1_fresh : ∀ op ∈ (ops1 : List (HloOp τ sig (Elt F))), op.fresh = ∅ := by intro op h; fin_cases h <;> rfl
theorem ops2_fresh : ∀ op ∈ (ops2 : List (HloOp τ sig (Elt F))), op.fresh = ∅ := by intro op h; fin_cases h <;> rfl

/-! ## The regions, entered inside @main -/

variable (P : (K (F := F)).Pay (nD := nD) (Val := Elt F) (Name := ℕ) (U := UU)) (κ : GSem nD τ sig → ℕ)

/-- The staging cells' ghost state and tokens of region `p`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

variable (V W : Dev nD → Valuation τ sig (Elt F))

theorem gate_step [∀ e, Nonempty (Elt F e)] (d : Dev nD) (Φ : PUnit → sProp 𝕄) :
    iprop((K (F := F)).ctx EH P κ ∗ (K (F := F)).tcSt EH d 0 ∗ boundary (T d) ∗ StableHlo.held (T d) ucS (V d) ∗ ghost 0 d
        ∗ (((K (F := F)).tcSt EH d 0 ∗ boundary (T d) ∗ StableHlo.held (T d) ucS (Pipeline.afterRegion (dat0 V d) (V d))) -∗ Φ ⟨⟩))
      ⊢ wp frame (wpE ((K (F := F)).defs (D (F := F))) 𝒱 (T d) none) Set.univ (enter 0) Φ := by
  rw [enter_lift]
  refine BI.Entails.trans ?_ ((K (F := F)).wp_liftProg (D (F := F)) 𝒱 (T d) Set.univ none (region 0) Φ)
  unfold region
  have h := Pipeline.RegionSeg.wp (pcfgs (F := F)) adm (pdats V V) (none : HIx 1) cellOf_inj EP (defs₀ (F := F)) 𝒱₀
    ((K (F := F)).L (nD := nD)) (K (F := F)).lev (gateRegion V V) d none (fun _ h => nomatch h) (fun _ => .ret ⟨⟩) Φ
  rw [show (gateRegion V V).post d = atCall 0 (fun d => Pipeline.afterRegion (dat0 V d) (V d)) d from rfl] at h
  refine BI.Entails.trans ?_ h
  show _ ⊢ iprop(_ ∗ _ ∗ atCall 0 V d ∗ _)
  unfold ghost SparseCore.Cfg.tcSt atCall
  iintro ⟨#Hctx, ⟨HO, Hr⟩, Hb, Hh, ⟨Hg, Ht⟩, Hk⟩
  ihave Hlev := (SparseCore.Cfg.ctx_levAts κ) $$ Hctx
  isplitl [Hr Hk]
  · iintro ⟨Hb, Hh, HO⟩
    rw [wp_ret]
    imodintro
    iapply Hk
    isplitl [HO Hr]
    · isplitl [HO]; · iexact HO
      iexact Hr
    isplitl [Hb]; · iexact Hb
    iexact Hh
  isplitl [Hb]; · iexact Hb
  isplitl [Hh HO]
  · isplitl [Hh]; · iexact Hh
    iexact HO
  isplitr; · iexact Hlev
  isplitl [Hg] <;> iassumption

theorem sum_step [∀ e, Nonempty (Elt F e)] (d : Dev nD) (Φ : PUnit → sProp 𝕄) :
    iprop((K (F := F)).ctx EH P κ ∗ (K (F := F)).tcSt EH d 1 ∗ boundary (T d) ∗ StableHlo.held (T d) ucS (W d) ∗ ghost 1 d
        ∗ (((K (F := F)).tcSt EH d 1 ∗ boundary (T d) ∗ StableHlo.held (T d) ucS (Pipeline.afterRegion (dat1 W d) (W d))) -∗ Φ ⟨⟩))
      ⊢ wp frame (wpE ((K (F := F)).defs (D (F := F))) 𝒱 (T d) none) Set.univ (enter 1) Φ := by
  rw [enter_lift]
  refine BI.Entails.trans ?_ ((K (F := F)).wp_liftProg (D (F := F)) 𝒱 (T d) Set.univ none (region 1) Φ)
  unfold region
  have h := Pipeline.RegionSeg.wp (pcfgs (F := F)) adm (pdats W W) (none : HIx 1) cellOf_inj EP (defs₀ (F := F)) 𝒱₀
    ((K (F := F)).L (nD := nD)) (K (F := F)).lev (sumRegion W W) d none (fun _ h => nomatch h) (fun _ => .ret ⟨⟩) Φ
  rw [show (sumRegion W W).post d = atCall 1 (fun d => Pipeline.afterRegion (dat1 W d) (W d)) d from rfl] at h
  refine BI.Entails.trans ?_ h
  show _ ⊢ iprop(_ ∗ _ ∗ atCall 1 W d ∗ _)
  unfold ghost SparseCore.Cfg.tcSt atCall
  iintro ⟨#Hctx, ⟨HO, Hr⟩, Hb, Hh, ⟨Hg, Ht⟩, Hk⟩
  ihave Hlev := (SparseCore.Cfg.ctx_levAts κ) $$ Hctx
  isplitl [Hr Hk]
  · iintro ⟨Hb, Hh, HO⟩
    rw [wp_ret]
    imodintro
    iapply Hk
    isplitl [HO Hr]
    · isplitl [HO]; · iexact HO
      iexact Hr
    isplitl [Hb]; · iexact Hb
    iexact Hh
  isplitl [Hb]; · iexact Hb
  isplitl [Hh HO]
  · isplitl [Hh]; · iexact Hh
    iexact HO
  isplitr; · iexact Hlev
  isplitl [Hg] <;> iassumption

/-! ## The SparseCore call inside @main -/

/-- The call's operands in the device's contents. -/
def callA1 (d : Dev nD) : Vec F S32768 .i32 := V d (Proc.devRef .tc main_v1)
def callA2 (d : Dev nD) : Vec F S32768 .i32 := V d (Proc.devRef .tc main_v2)
def callA3 (d : Dev nD) : Vec F S256 .f32 := V d (Proc.devRef .tc main_v3)
def callA4 (d : Dev nD) : Vec F S32x16 .f32 := V d (Proc.devRef .tc main_v4)

/-- The device's contents after the call: the partial sums written, the rest as before. -/
def afterCall (d : Dev nD) : Valuation τ sig (Elt F) :=
  Function.update (V d) (Proc.devRef .tc main_v4) (callOut (callA1 V) (callA2 V) (callA3 V) d)

/-- The call's four arrays. -/
def callRefs : Finset (DevRef τ sig) :=
  {Proc.devRef .tc main_v1, Proc.devRef .tc main_v2, Proc.devRef .tc main_v3, Proc.devRef .tc main_v4}

theorem afterCall_of_ne (d : Dev nD) {b : DevRef τ sig} (h : b ≠ Proc.devRef .tc main_v4) : afterCall V d b = V d b :=
  Function.update_of_ne h _ _
theorem afterCall_v4 (d : Dev nD) : afterCall V d (Proc.devRef .tc main_v4) = callOut (callA1 V) (callA2 V) (callA3 V) d :=
  Function.update_self _ _ _

theorem v4_mem : (Proc.devRef .tc main_v4 : DevRef τ sig) ∈ callRefs := by decide
theorem callRefs_sub : callRefs ⊆ ucS := by decide

theorem held_call (d : Dev nD) (X : Valuation τ sig (Elt F)) : (StableHlo.held (T d) callRefs X : sProp 𝕄)
    = iprop((l1 d ↦{fullShare} (X (Proc.devRef .tc main_v1) : Buf (Elt F) (l1 d))) ∗ (l2 d ↦{fullShare} (X (Proc.devRef .tc main_v2) : Buf (Elt F) (l2 d)))
      ∗ (l3 d ↦{fullShare} (X (Proc.devRef .tc main_v3) : Buf (Elt F) (l3 d))) ∗ (l4 d ↦{fullShare} (X (Proc.devRef .tc main_v4) : Buf (Elt F) (l4 d)))) := by
  unfold StableHlo.held callRefs
  rw [SparseCore.bigSep_insert' (by decide), SparseCore.bigSep_insert' (by decide), SparseCore.bigSep_insert' (by decide), bigSep_singleton]

/-- The payloads at the device's contents. -/
abbrev callPay : (K (F := F)).Pay (nD := nD) (Val := Elt F) (Name := ℕ) (U := UU) := Moe.P (callA1 V) (callA2 V) (callA3 V) (callA4 V)

theorem call_step (d : Dev nD) (Φ : PUnit → sProp 𝕄) :
    iprop((K (F := F)).ctx EH (callPay V) κ ∗ (K (F := F)).tcSt EH d 0 ∗ StableHlo.held (T d) ucS (V d)
        ∗ (((K (F := F)).tcSt EH d 1 ∗ StableHlo.held (T d) ucS (afterCall V d)) -∗ Φ ⟨⟩))
      ⊢ wp frame (wpE ((K (F := F)).defs (D (F := F))) 𝒱 (T d) none) Set.univ ((K (F := F)).run d 0) Φ := by
  rw [StableHlo.held_sub_split (T d) callRefs_sub (V d), StableHlo.held_sub_split (T d) callRefs_sub (afterCall V d),
    StableHlo.held_congr (T d) (S := ucS \ callRefs) (V := afterCall V d) (V' := V d) (fun b hb => afterCall_of_ne V d
      fun e => (Finset.mem_sdiff.mp hb).2 (by rw [e]; exact v4_mem)),
    held_call d (V d), held_call d (afterCall V d)]
  iintro ⟨#Hctx, Ht, ⟨Hc, Hz⟩, Hk⟩
  iapply ((K (F := F)).wp_run (D (F := F)) 𝒱 (EH := EH) (P := callPay V) κ d 0)
  isplitr; · iexact Hctx
  isplitl [Ht]; · iexact Ht
  isplitl [Hc]
  · iapply (Entails.of_eq (handed (callA1 V) (callA2 V) (callA3 V) (callA4 V) d).symm)
    iexact Hc
  iintro ⟨Ht, Hd⟩
  ihave Hd := (Entails.of_eq (taken (callA1 V) (callA2 V) (callA3 V) (callA4 V) d)) $$ Hd
  iapply Hk
  isplitl [Ht]; · iexact Ht
  isplitr [Hz]
  · rw [show afterCall V d (Proc.devRef .tc main_v1) = callA1 V d from afterCall_of_ne V d (by decide),
      show afterCall V d (Proc.devRef .tc main_v2) = callA2 V d from afterCall_of_ne V d (by decide),
      show afterCall V d (Proc.devRef .tc main_v3) = callA3 V d from afterCall_of_ne V d (by decide),
      afterCall_v4]
    iexact Hd
  iexact Hz

/-! ## The contents along @main -/

variable (m : (ℓ : Loc nD τ sig) → Buf (Elt F) ℓ) (ρ : Dev nD → PrngReg)

/-- At launch; after the gate; at the SparseCore call; after it; after the final sum; at the end. -/
def X0 (d : Dev nD) : Valuation τ sig (Elt F) := fun b => m (d, b)
def X1 (d : Dev nD) : Valuation τ sig (Elt F) := Pipeline.afterRegion (dat0 (X0 m) d) (X0 m d)
def X2 (d : Dev nD) : Valuation τ sig (Elt F) := StableHlo.after ops1 (X1 m d)
def X3 (d : Dev nD) : Valuation τ sig (Elt F) := afterCall (X2 m) d
def X4 (d : Dev nD) : Valuation τ sig (Elt F) := Pipeline.afterRegion (dat1 (X3 m) d) (X3 m d)
def X5 (d : Dev nD) : Valuation τ sig (Elt F) := StableHlo.after ops2 (X4 m d)

/-- What the launch deals the TensorCore beside the handshakes. -/
def dealt (d : Dev nD) : sProp 𝕄 := iprop(ghost 0 d ∗ ghost 1 d)
/-- What @main leaves for the claim. -/
def left (d : Dev nD) : sProp 𝕄 := StableHlo.held (T d) ucS (X5 m d)

theorem launch_held (d : Dev nD) :
    (unscopedBufs d (fun b => m ((SparseCore.T d).loc b)) : sProp 𝕄) = StableHlo.held (T d) ucS (X0 m d) :=
  Pipeline.unscopedBufs_held (Ix := HIx 1) (Name := ℕ) (U := UU) (Lvl := ℕ) d (X0 m d)

theorem hmain [∀ e, Nonempty (Elt F e)] (d : Dev nD) :
    iprop((K (F := F)).ctx EH (callPay (X2 m)) κ ∗ (K (F := F)).tcSt EH d 0 ∗ (K (F := F)).tcRes m ρ d ∗ dealt d)
      ⊢ wp frame (wpE ((K (F := F)).defs (D (F := F))) 𝒱 (T d) none) Set.univ (main d)
          fun _ => iprop((K (F := F)).tcSt EH d 1 ∗ left m d ∗ (K (F := F)).tcEnd d) := by
  unfold SparseCore.Cfg.tcRes SparseCore.Cfg.tcEnd dealt left
  rw [launch_held, main_eq]
  iintro ⟨#Hctx, Ht, ⟨Hb, Hh, Hs, -⟩, Hg0, Hg1⟩
  rw [wp_bind]
  iapply (gate_step (callPay (X2 m)) κ (X0 m) d)
  isplitr; · iexact Hctx
  isplitl [Ht]; · iexact Ht
  isplitl [Hb]; · iexact Hb
  isplitl [Hh]; · iexact Hh
  isplitl [Hg0]; · iexact Hg0
  iintro ⟨Ht, Hb, Hh⟩
  iapply (StableHlo.wp_seq 𝒱 none Set.univ d ucS _ ops1 ops1_sub ops1_fresh (X1 m d)) $$ [Hb Hh]
  · isplitl [Hb]; · iexact Hb
    iexact Hh
  iintro ⟨Hb, Hh⟩
  rw [wp_bind]
  iapply (call_step κ (X2 m) d)
  isplitr; · iexact Hctx
  isplitl [Ht]; · iexact Ht
  isplitl [Hh]; · iexact Hh
  iintro ⟨Ht, Hh⟩
  rw [wp_bind]
  iapply (sum_step (callPay (X2 m)) κ (X3 m) d)
  isplitr; · iexact Hctx
  isplitl [Ht]; · iexact Ht
  isplitl [Hb]; · iexact Hb
  isplitl [Hh]; · iexact Hh
  isplitl [Hg1]; · iexact Hg1
  iintro ⟨Ht, Hb, Hh⟩
  iapply (StableHlo.wp_seq 𝒱 none Set.univ d ucS _ ops2 ops2_sub ops2_fresh (X4 m d)) $$ [Hb Hh]
  · isplitl [Hb]; · iexact Hb
    iexact Hh
  iintro ⟨Hb, Hh⟩
  rw [wp_pure]
  imodintro
  isplitl [Ht]; · iexact Ht
  isplitl [Hh]; · iexact Hh
  isplitl [Hb]; · iexact Hb
  iexact Hs

/-! ## The launch -/

/-- The launch's ghost element: the handshakes' rounds, the staging cells' rounds, nothing of the counters. -/
def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

theorem one_device (Φ : Dev nD → sProp 𝕄) : bigSep Finset.univ Φ = Φ 0 := bigSep_univ_of_subsingleton (0 : Fin 1)
theorem two_regions (Φ : Fin 2 → sProp 𝕄) : bigSep Finset.univ Φ = iprop(Φ 0 ∗ Φ 1) := bigSep_fin_two _
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ dealt)
        ∗ bigSep Finset.univ fun thr : Thread nD τ => bigSep Finset.univ fun q : Fin 1 => (callPay V).x q thr) := by
  have hsplit : (ownU (u₀ (F := F)) : sProp 𝕄) ⊢ iprop(BI.own (EH (initOf (K (F := F)).hsCells (K (F := F)).hsToks))
      ∗ BI.own (EP (initOf (Pipeline.cells (nD := nD) (Pipeline.pin (pcfgs (F := F)) adm) cellOf_inj) (Pipeline.launchToks (nD := nD) (Pipeline.pin (pcfgs (F := F)) adm) cellOf_inj)))) :=
    BI.own_op_elim ((uEmb (nD := nD) (sig := sig) (Ix := HIx 1) (Val := Elt F) (Name := ℕ) (U := UU) (Lvl := ℕ)).toEmb.op_of_mem
      (Prod.mk_mem_op (URA.mem_op_one _) (URA.mem_one_op _)))
  iintro Hu
  ihave H := hsplit $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · unfold dealt ghost
    ihave Hc := (Entails.of_eq ((one_device _).trans (two_regions _))) $$ Hc
    ihave Ht := (Entails.of_eq ((one_device _).trans (two_regions _))) $$ Ht
    rw [one_device]
    icases Hc with ⟨Hc0, Hc1⟩
    icases Ht with ⟨Ht0, Ht1⟩
    isplitl [Hc0 Ht0]
    · isplitl [Hc0] <;> iassumption
    isplitl [Hc1] <;> iassumption
  · iapply (Entails.of_eq ((bigSep_congr fun thr _ => nothing (F := F) (Finset.univ : Finset (Fin 1))).trans
      (nothing (F := F) (Finset.univ : Finset (Thread nD τ)))).symm)
    iempintro

/-- At the end every unscoped buffer of the device holds what @main leaves. -/
def fq (d : Dev nD) (s : Phys nD τ sig (Elt F)) : Prop := ∀ b ∈ (ucS : Finset (DevRef τ sig)), s.mem.mem (d, b) = X5 m d b

theorem hfin (d : Dev nD) (s : Phys nD τ sig (Elt F)) : iprop(left m d ∗ SI s) ⊢ (⌜fq m d s⌝ : sProp 𝕄) := by
  unfold left StableHlo.held
  iintro ⟨H, HSI⟩
  ihave %h := (SI_pointsTo_bufs_agree (qs := fun _ => fullShare) (ucS : Finset (DevRef τ sig))) $$ [HSI H]
  · isplitl [HSI]; · iexact HSI
    iexact H
  ipureintro
  exact h

/-- What a run ends with: the unscoped buffers at what @main leaves, every counter at zero. -/
def Post (r : PUnit × MemSt nD τ sig (Elt F)) : Prop :=
  (∀ d : Dev nD, ∀ b ∈ (ucS : Finset (DevRef τ sig)), r.2.mem (d, b) = X5 m d b) ∧ r.2.sem = fun _ => 0

theorem run_main [∀ e, Nonempty (Elt F e)] (h1 : ∀ d j, (callA1 (X2 m) d j).toNat < 64) (h2 : ∀ d j, (callA2 (X2 m) d j).toNat < 64) :
    θ_run (defs (F := F)) (threads (F := F)) ⟨m, fun _ => 0, ρ⟩ (Post m) :=
  SparseCore.Cfg.θ_run_sc_quiescent (K := K (F := F)) (D := D (F := F)) (𝒱 := 𝒱) (EH := EH) (P := callPay (X2 m)) (A := ∅) facts v₀
    (fun q hq => match q with | 0 => nomatch hq)
    (fun q _ => match q with | 0 => tileObl (callA1 (X2 m)) (callA2 (X2 m)) (callA3 (X2 m)) (callA4 (X2 m)) h1 h2)
    (fun q _ => match q with | 0 => SparseCore.Cfg.VecSplit.of_plain (vecSplit (callA1 (X2 m)) (callA2 (X2 m)) (callA3 (X2 m)) (callA4 (X2 m))))
    m ρ main dealt (left m) u₀ (sep_elim_left.trans (hu₀ (X2 m))) (fun κ d => hmain κ m ρ d) (fq m) (hfin m) (Post m) (fun _ h hz => ⟨h, hz⟩)

end Cert.Proof.Moe

end
-- ==== Proof.Ids.lean ====
/-
  The ids that the gate writes are below 64, at any float instance: each is the least of 64 numbers, and each of those is
  a row number or 63. So the SparseCore's histogram is never addressed outside its 64 bins.
-/
module

public import proofs.«01_k».proof.Proof.Main
public import Idealize.ShloMosaic.Lib.Pipeline.ValueKit

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open Idealize.SL.BI.BIBase Idealize.SL.Sem

variable {F : FTy → Type} [FloatOps F]

/-- The smaller of two words is one of them. -/
theorem minsi_cases (a b : BitVec 32) : IntOp.minsi a b = a ∨ IntOp.minsi a b = b := by
  unfold IntOp.minsi; split
  · exact .inl rfl
  · exact .inr rfl

/-- Against the largest word a small one is the smaller. -/
theorem minsi_top {b : BitVec 32} (hb : b.toNat < 64) : IntOp.minsi 2147483647#32 b = b := by
  unfold IntOp.minsi
  rw [if_neg]
  have h : b.toInt = b.toNat := BitVec.toInt_eq_toNat_of_lt (by omega)
  have h' : (2147483647#32 : BitVec 32).toInt = 2147483647 := by decide
  rw [BitVec.slt_iff_toInt_lt, h, h']
  omega

/-- Taking smaller words from a small one on keeps small. -/
theorem foldl_minsi_lt {ι : Type} (f : ι → BitVec 32) (hf : ∀ r, (f r).toNat < 64) :
    ∀ (l : List ι) (a : BitVec 32), a.toNat < 64 → (l.foldl (fun acc r => IntOp.minsi acc (f r)) a).toNat < 64
  | [], a, ha => ha
  | r :: l, a, ha => foldl_minsi_lt f hf l _ (by show (IntOp.minsi a (f r)).toNat < 64; rcases minsi_cases a (f r) with h | h <;> rw [h]; exacts [ha, hf r])

/-- The least of a list of small words, taken against the largest word, is small when the list is not empty. -/
theorem minList_lt {n : ℕ} (f : Fin n → BitVec 32) (hf : ∀ r, (f r).toNat < 64) (hn : 0 < n) :
    ((List.finRange n).foldl (fun acc r => IntOp.minsi acc (f r)) 2147483647#32).toNat < 64 := by
  obtain ⟨k, rfl⟩ : ∃ k, n = k + 1 := ⟨n - 1, by omega⟩
  rw [List.finRange_succ, List.foldl_cons, minsi_top (hf _)]
  exact foldl_minsi_lt _ hf _ _ (hf _)

/-- The least of 64 words down each column is below 64 when every word is. -/
theorem minRows_lt (x : IVec S64x4096 32) (hx : ∀ i, (x i).toNat < 64) (j : S4096.Idx) :
    (multiReductionI .minsi [0] S4096 x 2147483647#32 reduces_S64x4096_S4096 rfl j).toNat < 64 := by
  refine lt_of_eq_of_lt (congrArg BitVec.toNat (reduceFold_rows reduces_S64x4096_S4096 _ _ _ j)) ?_
  exact minList_lt (fun r => x (Shape.pair r (reduces_S64x4096_S4096.col j))) (fun r => hx _) (by decide)

/-- A row number where a mask holds, 63 elsewhere. -/
theorem rowOr63_lt (c : IVec S64x4096 1) (i : S64x4096.Idx) :
    ((select c (iota .tc S64x4096 32 [0] iota_S64x4096_d0_w32) (broadcast S64x4096 63#32) : IVec S64x4096 32) i).toNat < 64 := by
  show (if c i = 1#1 then iota .tc S64x4096 32 [0] iota_S64x4096_d0_w32 i else 63#32 : BitVec 32).toNat < 64
  split
  · show (BitVec.ofNat 32 (0 * 64 + (i 0).val)).toNat < 64
    have h : (i 0).val < 64 := (i 0).isLt
    rw [BitVec.toNat_ofNat]
    omega
  · decide

theorem min1_lt (x0 : Vec F S1x4096x1024 .f32) (x1 : Vec F S64x1024 .f32) (j : S4096.Idx) : (k0_pay8 x0 x1 j).toNat < 64 := by
  exact minRows_lt _ (rowOr63_lt _) _

theorem min2_lt (x0 : Vec F S1x4096x1024 .f32) (x1 : Vec F S64x1024 .f32) (j : S4096.Idx) : (k0_pay11 x0 x1 j).toNat < 64 := by
  exact minRows_lt _ (rowOr63_lt _) _

theorem id1_lt (x0 : Vec F S1x4096x1024 .f32) (x1 : Vec F S64x1024 .f32) (y : S1x1x4096.Idx) : (k0_pay12 x0 x1 y).toNat < 64 := by
  unfold k0_pay12 shapeCast
  exact min1_lt _ _ _

theorem id2_lt (x0 : Vec F S1x4096x1024 .f32) (x1 : Vec F S64x1024 .f32) (y : S1x1x4096.Idx) : (k0_pay1 (k0_pay11 x0 x1) y).toNat < 64 := by
  unfold k0_pay1 shapeCast
  exact min2_lt _ _ _

variable (V : Dev nD → Valuation τ sig (Elt F))

theorem after0_2 (d : Dev nD) (t : Fin cfg0.N) : (dat0 V d).after 2 t = k0_pay12 (hsBlk V d t) (wtBlk V d t) := by dsimp only [dat0]
theorem after0_3 (d : Dev nD) (t : Fin cfg0.N) : (dat0 V d).after 3 t = k0_pay1 (k0_pay11 (hsBlk V d t) (wtBlk V d t)) := by dsimp only [dat0]
theorem after0_4 (d : Dev nD) (t : Fin cfg0.N) : (dat0 V d).after 4 t = k0_pay2 (k0_pay7 (hsBlk V d t) (wtBlk V d t)) := by dsimp only [dat0]
theorem after0_5 (d : Dev nD) (t : Fin cfg0.N) : (dat0 V d).after 5 t = k0_pay3 (k0_pay10 (hsBlk V d t) (wtBlk V d t)) := by dsimp only [dat0]
theorem after0_6 (d : Dev nD) (t : Fin cfg0.N) : (dat0 V d).after 6 t = accAt V d t.val t.isLt := by dsimp only [dat0]
theorem after1_1 (d : Dev nD) (t : Fin cfg2.N) : (dat1 V d).after 1 t = k2_pay1 (partBlk V d t) := by dsimp only [dat1]

/-- The first id plane after the gate's region. -/
theorem plane2_lt (d : Dev nD) (i : S4x1x8192.Idx) :
    (show BitVec 32 from Pipeline.afterRegion (dat0 V d) (V d) (Proc.devRef .tc main_v0_0) i).toNat < 64 := by
  have e : Pipeline.afterRegion (dat0 V d) (V d) (Proc.devRef .tc main_v0_0) = (dat0 V d).arrAt 2 cfg0.N :=
    Pipeline.afterRegion_arr (dat0 V d) (V d) inj0 2
  rw [e]
  exact (dat0 V d).arrAt_forall_of_covers 2 (fun i v => (show BitVec 32 from v).toNat < 64) (by decide +kernel) (fun t hf y => by
    show BitVec.toNat ((dat0 V d).after 2 t y) < 64
    rw [after0_2]; exact id1_lt _ _ _) i

/-- The second id plane after the gate's region. -/
theorem plane3_lt (d : Dev nD) (i : S4x1x8192.Idx) :
    (show BitVec 32 from Pipeline.afterRegion (dat0 V d) (V d) (Proc.devRef .tc main_v0_1) i).toNat < 64 := by
  have e : Pipeline.afterRegion (dat0 V d) (V d) (Proc.devRef .tc main_v0_1) = (dat0 V d).arrAt 3 cfg0.N :=
    Pipeline.afterRegion_arr (dat0 V d) (V d) inj0 3
  rw [e]
  exact (dat0 V d).arrAt_forall_of_covers 3 (fun i v => (show BitVec 32 from v).toNat < 64) (by decide +kernel) (fun t hf y => by
    show BitVec.toNat ((dat0 V d).after 3 t y) < 64
    rw [after0_3]; exact id2_lt _ _ _) i

/-! ## The host reshapes before the call -/

theorem after1_v1 (V : Valuation τ sig (Elt F)) :
    StableHlo.after ops1 V (Proc.devRef .tc main_v1)
      = shapeCast S32768 (V (Proc.devRef .tc main_v0_0) : S4x1x8192.Idx → BitVec 32) shapeCasts_S4x1x8192_S32768 := by
  unfold ops1; rfl

theorem after1_v2 (V : Valuation τ sig (Elt F)) :
    StableHlo.after ops1 V (Proc.devRef .tc main_v2)
      = shapeCast S32768 (V (Proc.devRef .tc main_v0_1) : S4x1x8192.Idx → BitVec 32) shapeCasts_S4x1x8192_S32768 := by
  unfold ops1; rfl

theorem after1_v3 (V : Valuation τ sig (Elt F)) :
    StableHlo.after ops1 V (Proc.devRef .tc main_v3)
      = shapeCast S256 (V (Proc.devRef .tc main_v0_4) : S4x64x1.Idx → F .f32) shapeCasts_S4x64x1_S256 := by
  unfold ops1; rfl

variable (m : (ℓ : Loc nD τ sig) → Buf (Elt F) ℓ)

theorem callA1_lt (d : Dev nD) (j : S32768.Idx) : (callA1 (X2 m) d j).toNat < 64 := by
  unfold callA1 X2
  rw [after1_v1]
  exact plane2_lt (X0 m) d _

theorem callA2_lt (d : Dev nD) (j : S32768.Idx) : (callA2 (X2 m) d j).toNat < 64 := by
  unfold callA2 X2
  rw [after1_v2]
  exact plane3_lt (X0 m) d _

end Cert.Proof.Moe

end
-- ==== Proof.Ends.lean ====
/-
  The arrays at the end of @main, read back to the gate's outputs: the arguments as they were, the two ids and the two
  weights side by side, and the scalar as the final sum of the SparseCore's partial sums. At any float instance.
-/
module

public import proofs.«01_k».proof.Proof.Ids

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open Idealize.SL.BI.BIBase Idealize.SL.Sem

variable {F : FTy → Type} [FloatOps F]

variable (m : (ℓ : Loc nD τ sig) → Buf (Elt F) ℓ) (d : Dev nD)

/-! ## The gate's outputs, kept to the end -/

theorem X3_keep {r : Ref sig .tc} (h4 : r ≠ main_v4) : X3 m d (Proc.devRef .tc r) = X2 m d (Proc.devRef .tc r) :=
  afterCall_of_ne (X2 m) d fun e => h4 (Proc.devRef_injective _ e)

theorem X4_keep {r : Ref sig .tc} (h5 : r ≠ main_v5) : X4 m d (Proc.devRef .tc r) = X3 m d (Proc.devRef .tc r) :=
  Pipeline.afterRegion_keeps (dat1 (X3 m) d) (X3 m d) inj1 (fun _ => rfl) r fun w hw => by
    match w with
    | ⟨0, _⟩ => rfl
    | ⟨1, _⟩ => exact absurd hw.symm h5

theorem X1_keep {r : Ref sig .tc} (h : ∀ w : Fin cfg0.W, 2 ≤ w.val → Pipeline.arrRef spec0 w ≠ r) :
    X1 m d (Proc.devRef .tc r) = m (d, Proc.devRef .tc r) :=
  Pipeline.afterRegion_keeps (dat0 (X0 m) d) (X0 m d) inj0 (fun _ => rfl) r fun w hw => by
    match w with
    | ⟨0, _⟩ => rfl
    | ⟨1, _⟩ => rfl
    | ⟨n + 2, hn⟩ => exact absurd hw (h ⟨n + 2, hn⟩ (Nat.le_add_left 2 n))

theorem X5_arg0 : X5 m d (Proc.devRef .tc main_arg0) = m (d, Proc.devRef .tc main_arg0) := by
  rw [show X5 m d (Proc.devRef .tc main_arg0) = X4 m d (Proc.devRef .tc main_arg0) from by unfold X5 ops2; rfl,
    X4_keep m d (by decide), X3_keep m d (by decide), show X2 m d (Proc.devRef .tc main_arg0) = X1 m d (Proc.devRef .tc main_arg0) from by unfold X2 ops1; rfl, X1_keep m d (by decide)]

theorem X5_arg1 : X5 m d (Proc.devRef .tc main_arg1) = m (d, Proc.devRef .tc main_arg1) := by
  rw [show X5 m d (Proc.devRef .tc main_arg1) = X4 m d (Proc.devRef .tc main_arg1) from by unfold X5 ops2; rfl,
    X4_keep m d (by decide), X3_keep m d (by decide), show X2 m d (Proc.devRef .tc main_arg1) = X1 m d (Proc.devRef .tc main_arg1) from by unfold X2 ops1; rfl, X1_keep m d (by decide)]

/-- The gate's output planes. -/
def id1Arr : S4x1x8192.Idx → BitVec 32 := X1 m d (Proc.devRef .tc main_v0_0)
def id2Arr : S4x1x8192.Idx → BitVec 32 := X1 m d (Proc.devRef .tc main_v0_1)
def w1Arr : S4x1x8192.Idx → F .f32 := X1 m d (Proc.devRef .tc main_v0_2)
def w2Arr : S4x1x8192.Idx → F .f32 := X1 m d (Proc.devRef .tc main_v0_3)
def sumArr : S4x64x1.Idx → F .f32 := X1 m d (Proc.devRef .tc main_v0_4)

/-- Two planes side by side in the last axis. -/
def sideBySide {α : Type} (a b : S4x1x8192.Idx → α) : S4x8192x2.Idx → α :=
  concatenate S4x8192x2 2
    [⟨S4x8192x1, broadcastInDim S4x8192x1 ![0, 1] bcast_S4x8192_S4x8192x1_0_1 (shapeCast S4x8192 a shapeCasts_S4x1x8192_S4x8192)⟩,
     ⟨S4x8192x1, broadcastInDim S4x8192x1 ![0, 1] bcast_S4x8192_S4x8192x1_0_1 (shapeCast S4x8192 b shapeCasts_S4x1x8192_S4x8192)⟩]
    concatenates_S4x8192x1_S4x8192x1_S4x8192x2_d2

theorem X5_v11 : X5 m d (Proc.devRef .tc main_v11) = sideBySide (id1Arr m d) (id2Arr m d) := by
  have h1 : X4 m d (Proc.devRef .tc main_v0_0) = id1Arr m d := by
    rw [X4_keep m d (by decide), X3_keep m d (by decide), show X2 m d (Proc.devRef .tc main_v0_0) = X1 m d (Proc.devRef .tc main_v0_0) from by unfold X2 ops1; rfl]; rfl
  have h2 : X4 m d (Proc.devRef .tc main_v0_1) = id2Arr m d := by
    rw [X4_keep m d (by decide), X3_keep m d (by decide), show X2 m d (Proc.devRef .tc main_v0_1) = X1 m d (Proc.devRef .tc main_v0_1) from by unfold X2 ops1; rfl]; rfl
  rw [← h1, ← h2]; unfold X5 ops2 sideBySide; rfl

theorem X5_v16 : X5 m d (Proc.devRef .tc main_v16) = sideBySide (w1Arr m d) (w2Arr m d) := by
  have h1 : X4 m d (Proc.devRef .tc main_v0_2) = w1Arr m d := by
    rw [X4_keep m d (by decide), X3_keep m d (by decide), show X2 m d (Proc.devRef .tc main_v0_2) = X1 m d (Proc.devRef .tc main_v0_2) from by unfold X2 ops1; rfl]; rfl
  have h2 : X4 m d (Proc.devRef .tc main_v0_3) = w2Arr m d := by
    rw [X4_keep m d (by decide), X3_keep m d (by decide), show X2 m d (Proc.devRef .tc main_v0_3) = X1 m d (Proc.devRef .tc main_v0_3) from by unfold X2 ops1; rfl]; rfl
  rw [← h1, ← h2]; unfold X5 ops2 sideBySide; rfl

/-- The SparseCore's partial sums. -/
def partArr : Vec F S32x16 .f32 :=
  scOut (shapeCast S32768 (id1Arr m d) shapeCasts_S4x1x8192_S32768) (shapeCast S32768 (id2Arr m d) shapeCasts_S4x1x8192_S32768)
    (shapeCast S256 (sumArr m d) shapeCasts_S4x64x1_S256)

theorem X3_v4 : X3 m d (Proc.devRef .tc main_v4) = partArr m d := by
  unfold X3
  rw [afterCall_v4]
  unfold callOut callA1 callA2 callA3 X2
  rw [after1_v1, after1_v2, after1_v3]
  rfl

theorem partBlk_eq (t : Fin cfg2.N) : partBlk (X3 m) d t = partArr m d := by
  rw [← X3_v4]
  unfold partBlk
  have e : ∀ t : Fin cfg2.N, win2_0.index t = ![0, 0] := (by decide +kernel : ∀ t : Fin grid2.N, _)
  funext y
  blk_ext [e]

theorem X4_v5 : X4 m d (Proc.devRef .tc main_v5) = k2_pay1 (partArr m d) := by
  have e : X4 m d (Proc.devRef .tc main_v5) = (dat1 (X3 m) d).arrAt 1 cfg2.N :=
    Pipeline.afterRegion_arr (dat1 (X3 m) d) (X3 m d) inj1 1
  rw [e]
  refine (dat1 (X3 m) d).arrAt_eq_of_after_last 1 ⟨0, by decide +kernel⟩ (by decide +kernel) _ fun j => ?_
  show (dat1 (X3 m) d).after 1 _ j = _
  rw [after1_1, partBlk_eq]
  rfl

theorem X5_v6 : X5 m d (Proc.devRef .tc main_v6) = shapeCast S_ (k2_pay1 (partArr m d)) shapeCasts_S1x1_S_ := by
  rw [← X4_v5]; unfold X5 ops2; rfl

end Cert.Proof.Moe

end
-- ==== Proof.Same.lean ====
/-
  The kernel as printed and the kernel read at exact numbers are one program text printed twice: here, their body tables
  and threads are shown to be the same, so that one run serves both.
-/
module

public import proofs.«01_k».proof.Proof.Gen.Kernel
public import proofs.«01_k».proof.Proof.Gen.KernelIdeal

@[expose] public section

set_option maxRecDepth 4096

noncomputable section

namespace Cert.Proof.Moe

open Idealize.ShloMosaic Idealize.ShloMosaic.TcCoe
open Cert.KernelIdeal.Gen
open Cert.Kernel.Gen

variable {F : FTy → Type} [FloatOps F]

theorem same_sum : @Cert.Kernel.cc2__reduce_body F _ _ = @Cert.KernelIdeal.cc2__reduce_body F _ _ := rfl
theorem same_gate : @Cert.Kernel.cc0__gate_body F _ _ = @Cert.KernelIdeal.cc0__gate_body F _ _ := rfl
theorem same_tile (i : Cert.KernelIdeal.grid1.Coords) : @Cert.Kernel.cc1_sc_aux F _ _ i = @Cert.KernelIdeal.cc1_sc_aux F _ _ i := rfl

/-- The gate's entry of the body table. -/
theorem entry_gate (t s) : Cert.Kernel.defs₀ (F := F) .tc (0 : Fin 3) (t, s) = Cert.KernelIdeal.defs₀ (F := F) .tc (0 : Fin 3) (t, s) := by
  refine Eq.trans (Cert.Kernel.defs₀.eq_1 t s) ?_
  refine Eq.trans ?_ (Cert.KernelIdeal.defs₀.eq_1 t s).symm
  rw [same_gate]; rfl

/-- The final sum's. -/
theorem entry_sum (t s) : Cert.Kernel.defs₀ (F := F) .tc (2 : Fin 3) (t, s) = Cert.KernelIdeal.defs₀ (F := F) .tc (2 : Fin 3) (t, s) := by
  refine Eq.trans (Cert.Kernel.defs₀.eq_3 t s) ?_
  refine Eq.trans ?_ (Cert.KernelIdeal.defs₀.eq_3 t s).symm
  rw [same_sum]

/-- The SparseCore kernel's. -/
theorem entry_tile (c s a) : Cert.Kernel.defs₀ (F := F) (.scVector c s) (1 : Fin 3) a = Cert.KernelIdeal.defs₀ (F := F) (.scVector c s) (1 : Fin 3) a := by
  refine Eq.trans (Cert.Kernel.defs₀.eq_2 c s a) ?_
  refine Eq.trans ?_ (Cert.KernelIdeal.defs₀.eq_2 c s a).symm
  refine congrArg (fun f => SparseCore.onTile (nD := Cert.KernelIdeal.nD) (sig := Cert.KernelIdeal.sig) (Val := Elt F) (Λ := Cert.KernelIdeal.Λ₀)
    Cert.KernelIdeal.Facts₀.hcore1 Cert.KernelIdeal.Facts₀.hsub1 f PUnit.unit c s) ?_
  funext c s
  exact (congrFun (congrFun (congrFun (congrFun (congrFun (congrFun (congrFun (congrFun (congrFun (congrFun (congrFun (congrFun (congrFun (congrFun (congrFun (congrFun (congrFun (congrFun (congrFun (congrFun (same_tile (F := F) _) _) _) _) _) _) _) _) _) _) _) _) _) _) _) _) _) _) _) _) _)

set_option maxHeartbeats 2000000 in
/-- The kernels' table. -/
theorem table_same : Cert.Kernel.defs₀ (F := F) = Cert.KernelIdeal.defs₀ (F := F) := by
  funext p ℓ a
  match p, ℓ, a with
  | .tc, 0, (t, s) => exact entry_gate t s
  | .tc, 1, a => rfl
  | .tc, 2, (t, s) => exact entry_sum t s
  | .scVector c s, 0, a => rfl
  | .scVector c s, 1, a => exact entry_tile c s a
  | .scVector c s, 2, a => rfl
  | .scScalar c, 0, a => rfl
  | .scScalar c, 1, a => rfl
  | .scScalar c, 2, a => rfl

/-- The whole table. -/
theorem defs_same : Cert.Kernel.defs (F := F) = Cert.KernelIdeal.defs (F := F) := by
  unfold Cert.Kernel.defs Cert.KernelIdeal.defs
  rw [table_same]
  rfl

/-- The threads. -/
theorem threads_same : Cert.Kernel.threads (F := F) = Cert.KernelIdeal.threads (F := F) := rfl

end Cert.Proof.Moe

end
-- ==== Proof.Frames.lean ====
/-
  The runs as the claims word them: both readings of the kernel run to the end, leave the arguments alone and put every
  semaphore counter back to zero; so does the reference, which declares no semaphore.
-/
module

public import proofs.«01_k».proof.Defs
public import proofs.«01_k».proof.Proof.Ends
public import proofs.«01_k».proof.Proof.Same
public import proofs.«01_k».proof.Proof.Gen.ReferenceIdeal.Run
public import Idealize.ShloMosaic.Lib.Quiescent

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open Idealize.SL.BI.BIBase Idealize.SL.Sem

variable {F : FTy → Type} [FloatOps F]

/-- What the run leaves, read at the arguments and the results. -/
theorem run_ends (m : (ℓ : Loc nD τ sig) → Buf (Elt F) ℓ) (ρ : Dev nD → PrngReg) [∀ e, Nonempty (Elt F e)] :
    θ_run (defs (F := F)) (threads (F := F)) ⟨m, fun _ => 0, ρ⟩ fun r =>
      (∀ d : Dev nD, r.2.mem ((d.tc : Thread nD τ).loc main_v11) = sideBySide (id1Arr m d) (id2Arr m d)
        ∧ r.2.mem ((d.tc : Thread nD τ).loc main_v16) = sideBySide (w1Arr m d) (w2Arr m d)
        ∧ r.2.mem ((d.tc : Thread nD τ).loc main_v6) = shapeCast S_ (k2_pay1 (partArr m d)) shapeCasts_S1x1_S_
        ∧ r.2.mem ((d.tc : Thread nD τ).loc main_arg0) = m ((d.tc : Thread nD τ).loc main_arg0)
        ∧ r.2.mem ((d.tc : Thread nD τ).loc main_arg1) = m ((d.tc : Thread nD τ).loc main_arg1))
      ∧ r.2.sem = fun _ => 0 := by
  refine (θ_run (defs (F := F)) _ _).mono (fun r h => ⟨fun d => ⟨?_, ?_, ?_, ?_, ?_⟩, h.2⟩) (run_main m ρ (callA1_lt m) (callA2_lt m))
  · exact (h.1 d _ (Pipeline.devRef_mem_ucRefs rfl)).trans (X5_v11 m d)
  · exact (h.1 d _ (Pipeline.devRef_mem_ucRefs rfl)).trans (X5_v16 m d)
  · exact (h.1 d _ (Pipeline.devRef_mem_ucRefs rfl)).trans (X5_v6 m d)
  · exact (h.1 d _ (Pipeline.devRef_mem_ucRefs rfl)).trans (X5_arg0 m d)
  · exact (h.1 d _ (Pipeline.devRef_mem_ucRefs rfl)).trans (X5_arg1 m d)

/-- The kernel read at exact numbers: its frame. -/
theorem frame_ideal : Cert.quiescent_KernelIdeal := fun m ρ _ =>
  (θ_run (Cert.KernelIdeal.defs (F := Ideal)) _ _).mono (fun r h => ⟨fun d => (h.1 d).2.2.2, h.2⟩) (run_ends (F := Ideal) m ρ)

/-- The kernel as printed: its text is the same, so its frame is the run above at bit patterns. -/
theorem frame_bits : Cert.quiescent_Kernel (hKernel := Cert.Kernel.Gen.facts) := by
  intro m ρ _
  rw [defs_same, threads_same]
  refine (θ_run (Cert.KernelIdeal.defs (F := Bits)) _ _).mono ?_ (run_ends (F := Bits) m ρ)
  exact fun r h => ⟨fun d => (h.1 d).2.2.2, h.2⟩

/-- The reference's frame. -/
theorem frame_ref : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2, sem_eq_zero_of_no_sems (by decide) r.2⟩) (Cert.ReferenceIdeal.Value.run (F := Ideal) m ρ)

end Cert.Proof.Moe

end
-- ==== Proof.Column.lean ====
/-
  A token's column of 64 expert scores, as pure mathematics: the first place of its greatest value and the first place of
  the greatest of the rest; that a running least over row numbers finds the first place, that blotting out the first place
  and searching again finds the second, and that the first two slots of a stable descending sort are the same two places.
-/
module

public import proofs.«01_k».proof.Proof.Ids
public import Idealize.ShloMosaic.Lib.SortFacts
public import Idealize.ShloMosaic.PureOps.Ideal.Laws

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open Idealize.SL.BI.BIBase Idealize.SL.Sem

/-! ## First and second place -/

/-- `i` is the first place where the column is greatest. -/
def IsFirst (s : Fin 64 → EReal) (i : Fin 64) : Prop := (∀ j, s j ≤ s i) ∧ ∀ j, j < i → s j < s i

/-- `k` is the first place, `i` left out, where the column is greatest. -/
def IsSecond (s : Fin 64 → EReal) (i k : Fin 64) : Prop := k ≠ i ∧ (∀ j, j ≠ i → s j ≤ s k) ∧ ∀ j, j ≠ i → j < k → s j < s k

theorem IsFirst.unique {s : Fin 64 → EReal} {i j : Fin 64} (hi : IsFirst s i) (hj : IsFirst s j) : i = j := by
  rcases lt_trichotomy i j with h | h | h
  · exact absurd (hj.2 i h) (not_lt.2 (hi.1 j))
  · exact h
  · exact absurd (hi.2 j h) (not_lt.2 (hj.1 i))

theorem IsSecond.unique {s : Fin 64 → EReal} {a i j : Fin 64} (hi : IsSecond s a i) (hj : IsSecond s a j) : i = j := by
  rcases lt_trichotomy i j with h | h | h
  · exact absurd (hj.2.2 i hi.1 h) (not_lt.2 (hi.2.1 j hj.1))
  · exact h
  · exact absurd (hi.2.2 j hj.1 h) (not_lt.2 (hj.2.1 i hi.1))

/-- The column with one place blotted out by −1. -/
def blot (s : Fin 64 → EReal) (i : Fin 64) : Fin 64 → EReal := fun j => if j = i then -1 else s j

/-- Where the scores are not negative, the first place of the blotted column is the second place of the column. -/
theorem IsFirst.second {s : Fin 64 → EReal} (h0 : ∀ j, 0 ≤ s j) {i k : Fin 64} (h : IsFirst (blot s i) k) : IsSecond s i k := by
  have hk : k ≠ i := by
    intro e
    obtain ⟨j, hj⟩ : ∃ j : Fin 64, j ≠ i := ⟨if i = 0 then 1 else 0, by split <;> omega⟩
    have h1 := h.1 j
    simp only [blot, if_neg hj, e, if_true] at h1
    have h2 : (0 : EReal) ≤ -1 := (h0 j).trans h1
    exact absurd h2 (by
      rw [not_le]
      have : ((-1 : ℝ) : EReal) < ((0 : ℝ) : EReal) := EReal.coe_lt_coe_iff.2 (by norm_num)
      simpa using this)
  refine ⟨hk, fun j hj => ?_, fun j hj hl => ?_⟩
  · have := h.1 j
    simpa only [blot, if_neg hj, if_neg hk] using this
  · have := h.2 j hl
    simpa only [blot, if_neg hj, if_neg hk] using this

/-! ## The greatest value -/

/-- The greatest value of a column, as a running maximum from −∞. -/
def top (s : Fin 64 → EReal) : EReal := (Finset.univ : Finset (Fin 64)).fold max ⊥ s

theorem le_top (s : Fin 64 → EReal) (j : Fin 64) : s j ≤ top s := (Finset.le_fold_max _).2 (Or.inr ⟨j, Finset.mem_univ j, le_rfl⟩)

theorem top_eq {s : Fin 64 → EReal} {i : Fin 64} (h : ∀ j, s j ≤ s i) : top s = s i :=
  le_antisymm ((Finset.fold_max_le _).2 ⟨bot_le, fun j _ => h j⟩) (le_top s i)

/-- Some place attains the greatest value. -/
theorem exists_top (s : Fin 64 → EReal) : ∃ i, ∀ j, s j ≤ s i := by
  obtain ⟨i, -, hi⟩ := Finset.exists_max_image (Finset.univ : Finset (Fin 64)) s ⟨0, Finset.mem_univ 0⟩
  exact ⟨i, fun j => hi j (Finset.mem_univ j)⟩

/-- A column has a first place. -/
theorem exists_first (s : Fin 64 → EReal) : ∃ i, IsFirst s i := by
  classical
  obtain ⟨a, ha⟩ := exists_top s
  let S : Finset (Fin 64) := Finset.univ.filter fun i => ∀ j, s j ≤ s i
  have hS : S.Nonempty := ⟨a, Finset.mem_filter.2 ⟨Finset.mem_univ a, ha⟩⟩
  have hm := (Finset.mem_filter.1 (S.min'_mem hS)).2
  refine ⟨S.min' hS, hm, fun j hj => lt_of_le_of_ne (hm j) fun e => ?_⟩
  have : j ∈ S := Finset.mem_filter.2 ⟨Finset.mem_univ j, fun k => e ▸ hm k⟩
  exact absurd (S.min'_le j this) (not_le.2 hj)

/-- The first place of a column. -/
def first (s : Fin 64 → EReal) : Fin 64 := Classical.choose (exists_first s)
theorem first_spec (s : Fin 64 → EReal) : IsFirst s (first s) := Classical.choose_spec (exists_first s)

/-- The second place: the first place once the first is blotted out. -/
def second (s : Fin 64 → EReal) : Fin 64 := first (blot s (first s))
theorem second_spec {s : Fin 64 → EReal} (h0 : ∀ j, 0 ≤ s j) : IsSecond s (first s) (second s) := (first_spec _).second h0

/-! ## The search by row number -/

/-- What a running least of small words ends with: one of the words met, and none greater than any of them. -/
theorem foldl_minsi_spec {ι : Type} (f : ι → BitVec 32) (hf : ∀ r, (f r).toNat < 64) :
    ∀ (l : List ι) (a : BitVec 32), a.toNat < 64 →
      (l.foldl (fun acc r => IntOp.minsi acc (f r)) a = a ∨ ∃ r ∈ l, l.foldl (fun acc r => IntOp.minsi acc (f r)) a = f r)
      ∧ (l.foldl (fun acc r => IntOp.minsi acc (f r)) a).toNat ≤ a.toNat
      ∧ ∀ r ∈ l, (l.foldl (fun acc r => IntOp.minsi acc (f r)) a).toNat ≤ (f r).toNat
  | [], a, _ => ⟨Or.inl rfl, le_rfl, fun r hr => absurd hr (List.not_mem_nil)⟩
  | r :: l, a, ha => by
    have hm : (IntOp.minsi a (f r) = a ∨ IntOp.minsi a (f r) = f r) ∧ (IntOp.minsi a (f r)).toNat ≤ a.toNat
        ∧ (IntOp.minsi a (f r)).toNat ≤ (f r).toNat := by
      have hr := hf r
      have ea : a.toInt = (a.toNat : ℤ) := BitVec.toInt_eq_toNat_of_lt (by omega)
      have er : (f r).toInt = ((f r).toNat : ℤ) := BitVec.toInt_eq_toNat_of_lt (by omega)
      unfold IntOp.minsi
      split
      · rename_i h
        rw [BitVec.slt_iff_toInt_lt, ea, er] at h
        exact ⟨Or.inl rfl, by omega, by omega⟩
      · rename_i h
        rw [BitVec.slt_iff_toInt_lt, ea, er] at h
        exact ⟨Or.inr rfl, by omega, by omega⟩
    have hlt : (IntOp.minsi a (f r)).toNat < 64 := by omega
    obtain ⟨h1, h2, h3⟩ := foldl_minsi_spec f hf l _ hlt
    rw [List.foldl_cons]
    refine ⟨?_, h2.trans hm.2.1, ?_⟩
    · rcases h1 with h1 | ⟨r', hr', h1⟩
      · rcases hm.1 with e | e
        · exact Or.inl (h1.trans e)
        · exact Or.inr ⟨r, List.mem_cons_self, h1.trans e⟩
      · exact Or.inr ⟨r', List.mem_cons_of_mem _ hr', h1⟩
    · intro r' hr'
      rcases List.mem_cons.1 hr' with rfl | hr'
      · exact h2.trans hm.2.2
      · exact h3 r' hr'

/-- The least row number among the rows that a property picks, with 63 standing for the rows it does not pick, is the first
    row picked. -/
theorem minList_first (p : Fin 64 → Prop) [DecidablePred p] (i : Fin 64) (hi : p i) (hb : ∀ j, j < i → ¬ p j) :
    (List.finRange 64).foldl (fun acc r => IntOp.minsi acc (if p r then BitVec.ofNat 32 r.val else 63#32)) 2147483647#32
      = BitVec.ofNat 32 i.val := by
  have hn : ∀ r : Fin 64, (BitVec.ofNat 32 r.val).toNat = r.val := fun r => by
    have := r.isLt
    rw [BitVec.toNat_ofNat]; omega
  have hf : ∀ r : Fin 64, (if p r then BitVec.ofNat 32 r.val else 63#32 : BitVec 32).toNat < 64 := fun r => by
    split
    · rw [hn]; exact r.isLt
    · decide
  rw [show List.finRange 64 = 0 :: (List.finRange 63).map Fin.succ from List.finRange_succ, List.foldl_cons, minsi_top (hf _)]
  obtain ⟨h1, h2, h3⟩ := foldl_minsi_spec _ hf ((List.finRange 63).map Fin.succ) _ (hf 0)
  set w := List.foldl (fun acc r => IntOp.minsi acc (if p r then BitVec.ofNat 32 r.val else 63#32))
    (if p 0 then BitVec.ofNat 32 (0 : Fin 64).val else 63#32) ((List.finRange 63).map Fin.succ) with hw
  have hle : w.toNat ≤ (if p i then BitVec.ofNat 32 i.val else 63#32 : BitVec 32).toNat := by
    rcases Fin.eq_zero_or_eq_succ i with e | ⟨j, e⟩
    · rw [e]; exact h2
    · rw [e]; exact h3 _ (List.mem_map_of_mem (List.mem_finRange j))
  rw [if_pos hi, hn] at hle
  have hmem : ∃ r : Fin 64, w = if p r then BitVec.ofNat 32 r.val else 63#32 := by
    rcases h1 with e | ⟨r, -, e⟩
    · exact ⟨0, e⟩
    · exact ⟨r, e⟩
  obtain ⟨r, hr⟩ := hmem
  apply BitVec.eq_of_toNat_eq
  rw [hn]
  by_cases hp : p r
  · rw [if_pos hp] at hr
    rw [hr, hn] at hle
    rw [hr, hn]
    rcases Nat.lt_or_ge r.val i.val with h | h
    · exact absurd hp (hb r h)
    · omega
  · rw [if_neg hp] at hr
    rw [hr] at hle ⊢
    have h63 : (63#32 : BitVec 32).toNat = 63 := rfl
    rw [h63] at hle ⊢
    have := i.isLt
    omega

/-- The search of the kernel: rows equal to the column's greatest value, the least of their numbers. -/
theorem minList_top (s : Fin 64 → EReal) :
    (List.finRange 64).foldl (fun acc r => IntOp.minsi acc (if s r = top s then BitVec.ofNat 32 r.val else 63#32)) 2147483647#32
      = BitVec.ofNat 32 (first s).val := by
  classical
  have h := first_spec s
  have e := top_eq h.1
  refine Eq.trans ?_ (minList_first (fun r => s r = top s) (first s) e.symm fun j hj => ?_)
  · congr!
  · exact fun he => absurd (h.2 j hj) (by rw [← e, he]; exact lt_irrefl _)

/-! ## The stable sort -/

/-- Row `k` goes before row `k'`: a greater score, or the same score and a smaller number. -/
def before (s : Fin 64 → EReal) (k k' : Fin 64) : Bool := decide (s k' < s k ∨ s k = s k' ∧ k < k')

theorem before_false {s : Fin 64 → EReal} {k k' : Fin 64} : before s k k' = false ↔ s k < s k' ∨ s k = s k' ∧ k' ≤ k := by
  unfold before
  rw [decide_eq_false_iff_not, not_or, not_and, not_lt, not_lt]
  constructor
  · rintro ⟨h1, h2⟩
    rcases h1.lt_or_eq with h | h
    · exact Or.inl h
    · exact Or.inr ⟨h, h2 h⟩
  · rintro (h | ⟨h, h'⟩)
    · exact ⟨h.le, fun e => absurd h (by rw [e]; exact lt_irrefl _)⟩
    · exact ⟨h.le, fun _ => h'⟩

/-- A descending insertion sort of an ascending list of rows leaves them in order of `before`. -/
theorem pairwise_sort (s : Fin 64 → EReal) (R : Fin 64 → Fin 64 → Bool) (hR : ∀ k k', R k k' = decide (s k' < s k)) :
    ∀ l : List (Fin 64), l.Pairwise (· < ·) → (stableSort R l).Pairwise fun b c => before s c b = false
  | [], _ => List.Pairwise.nil
  | a :: l, hl => by
    have hl' := List.pairwise_cons.1 hl
    have ih := pairwise_sort s R hR l hl'.2
    show (insertBefore R a (stableSort R l)).Pairwise _
    have hcongr : insertBefore R a (stableSort R l) = insertBefore (before s) a (stableSort R l) := by
      refine insertBefore_congr _ _ _ _ fun b hb => ?_
      have hb' : b ∈ l := (perm_stableSort R l).mem_iff.1 hb
      have hab : a < b := hl'.1 b hb'
      rw [hR]
      unfold before
      refine decide_eq_decide.2 ⟨Or.inl, ?_⟩
      rintro (h | ⟨-, h⟩)
      · exact h
      · exact absurd h (not_lt.2 hab.le)
    rw [hcongr]
    refine pairwise_insertBefore (before s) (before s) (fun {a b} h => ?_) (fun {a b} h => h) (fun {a b c} h1 h2 => ?_) _ _ ih
    · rw [before_false]
      rcases of_decide_eq_true h with h | ⟨h, h'⟩
      · exact Or.inl h
      · exact Or.inr ⟨h.symm, h'.le⟩
    · rw [before_false] at h1 h2 ⊢
      rcases h1 with h1 | ⟨h1, h1'⟩ <;> rcases h2 with h2 | ⟨h2, h2'⟩
      · first | exact Or.inl (h1.trans h2) | exact Or.inl (h2.trans h1)
      · first | exact Or.inl (h1.trans_eq h2) | exact Or.inl (h2 ▸ h1)
      · first | exact Or.inl (h1.trans_lt h2) | exact Or.inl (h1 ▸ h2)
      · first | exact Or.inr ⟨h1.trans h2, h2'.trans h1'⟩ | exact Or.inr ⟨h2.trans h1, h1'.trans h2'⟩

/-- Of two slots of the sorted column, whatever its length, the later one does not go before the earlier one. -/
theorem sorted_ordered {n : ℕ} (B R : Fin n → Fin n → Bool) (hp : (sortPositions n R).Pairwise fun b c => B c b = false)
    (i j : Fin n) (hij : i < j) : B (sortedFrom R j) (sortedFrom R i) = false := by
  have h : ∀ a b : Fin (sortPositions n R).length, a < b → B ((sortPositions n R).get b) ((sortPositions n R).get a) = false :=
    fun a b hab => List.pairwise_iff_get.1 hp a b hab
  exact h _ _ hij

/-- The first two slots of the sorted column are its first and second place. -/
theorem sorted_places (s : Fin 64 → EReal) (R : Fin 64 → Fin 64 → Bool) (hR : ∀ k k', R k k' = decide (s k' < s k)) :
    IsFirst s (sortedFrom R 0) ∧ IsSecond s (sortedFrom R 0) (sortedFrom R 1) := by
  have hp : (sortPositions 64 R).Pairwise fun b c => before s c b = false := by
    unfold sortPositions
    exact pairwise_sort s R hR (List.finRange 64) (List.pairwise_lt_finRange 64)
  have hord := sorted_ordered (before s) R hp
  have hinj := sortedFrom_injective R
  have hsurj := sortedFrom_surjective R
  refine ⟨⟨fun j => ?_, fun j hj => ?_⟩, fun e => absurd (hinj e) (by decide), fun j hj => ?_, fun j hj hl => ?_⟩
  · obtain ⟨k, rfl⟩ := hsurj j
    rcases Nat.eq_zero_or_pos k.val with h | h
    · rw [show k = 0 from Fin.ext h]
    · rcases before_false.1 (hord 0 k h) with h | ⟨h, -⟩
      · exact h.le
      · exact h.le
  · obtain ⟨k, rfl⟩ := hsurj j
    rcases Nat.eq_zero_or_pos k.val with h | h
    · rw [show k = 0 from Fin.ext h] at hj
      exact absurd hj (lt_irrefl _)
    · rcases before_false.1 (hord 0 k h) with h | ⟨-, h⟩
      · exact h
      · exact absurd hj (not_lt.2 h)
  · obtain ⟨k, rfl⟩ := hsurj j
    have hk0 : k ≠ 0 := fun e => hj (e ▸ rfl)
    by_cases hk1 : k = 1
    · rw [hk1]
    · rcases before_false.1 (hord 1 k (by omega)) with h | ⟨h, -⟩
      · exact h.le
      · exact h.le
  · obtain ⟨k, rfl⟩ := hsurj j
    have hk0 : k ≠ 0 := fun e => hj (e ▸ rfl)
    by_cases hk1 : k = 1
    · rw [hk1] at hl
      exact absurd hl (lt_irrefl _)
    · rcases before_false.1 (hord 1 k (by omega)) with h | ⟨-, h⟩
      · exact h
      · exact absurd hl (not_lt.2 h)

end Cert.Proof.Moe

end
-- ==== Proof.Soft.lean ====
/-
  The softmax of a column of 64 expert logits, as pure mathematics: the kernel's form (each exponential times the reciprocal
  of their sum) and the reference's form (the column shifted by its greatest value twice, each exponential over their sum),
  and that the two agree, with scores that are real and not negative, where the logits are real.
-/
module

public import proofs.«01_k».proof.Proof.Column
public import Idealize.ShloMosaic.Lib.IdealHost

@[expose] public section

set_option maxRecDepth 4096

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open Idealize.SL.BI.BIBase Idealize.SL.Sem

/-- A finite sum of reals is the same sum of extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's score of expert `e`: its shifted exponential times the reciprocal of the sum of all. -/
def soft (l : Fin 64 → EReal) (e : Fin 64) : EReal := Ideal.exp (l e - top l) * Ideal.div 1 (∑ j, Ideal.exp (l j - top l))

/-- The reference's score: the column less its greatest value, less again the greatest of that (never below −∞), exponentials
    over their sum. -/
def refSoft (l : Fin 64 → EReal) (e : Fin 64) : EReal :=
  Ideal.div (Ideal.exp ((l e - top l) - max ⊥ (top fun j => l j - top l)))
    (0 + ∑ j, Ideal.exp ((l j - top l) - max ⊥ (top fun j => l j - top l)))

section
variable {l : Fin 64 → EReal} {r : Fin 64 → ℝ}

/-- The shifted exponentials of real logits are positive reals. -/
theorem exp_shift (hr : ∀ e, l e = r e) {i : Fin 64} (hi : ∀ j, l j ≤ l i) (e : Fin 64) :
    Ideal.exp (l e - top l) = (Real.exp (r e - r i) : EReal) := by
  rw [top_eq hi, hr, hr, ← EReal.coe_sub]
  rfl

/-- Their sum is not zero. -/
theorem sum_exp_ne (r : Fin 64 → ℝ) (i : Fin 64) : (((∑ j, Real.exp (r j - r i) : ℝ)) : EReal) ≠ 0 := by
  have h : (0 : ℝ) < ∑ j, Real.exp (r j - r i) := Finset.sum_pos (fun j _ => Real.exp_pos _) ⟨0, Finset.mem_univ _⟩
  rw [← EReal.coe_zero]
  exact fun e => absurd (EReal.coe_injective e) (ne_of_gt h)

/-- The scores of real logits are real and not negative. -/
theorem soft_real (h : ∀ e, ∃ r : ℝ, l e = r) (e : Fin 64) : ∃ p : ℝ, 0 ≤ p ∧ soft l e = p := by
  choose r hr using h
  obtain ⟨i, hi⟩ := exists_top l
  refine ⟨Real.exp (r e - r i) * (∑ j, Real.exp (r j - r i))⁻¹, ?_, ?_⟩
  · exact mul_nonneg (Real.exp_pos _).le (inv_nonneg.2 (Finset.sum_nonneg fun j _ => (Real.exp_pos _).le))
  · unfold soft
    rw [Finset.sum_congr rfl fun j _ => exp_shift hr hi j, ← coe_sum_real, exp_shift hr hi]
    unfold Ideal.div
    rw [if_neg (sum_exp_ne r i), one_mul, ← EReal.coe_inv, EReal.coe_mul]

/-- For real logits the two forms of the score agree. -/
theorem refSoft_eq (h : ∀ e, ∃ r : ℝ, l e = r) (e : Fin 64) : refSoft l e = soft l e := by
  choose r hr using h
  obtain ⟨i, hi⟩ := exists_top l
  have hv : ∀ j, l j - top l = ((r j - r i : ℝ) : EReal) := fun j => by rw [top_eq hi, hr, hr, EReal.coe_sub]
  have ht : max ⊥ (top fun j => l j - top l) = 0 := by
    have h1 : (top fun j => l j - top l) = l i - top l := by
      refine top_eq (i := i) fun j => ?_
      show l j - top l ≤ l i - top l
      rw [hv, hv, EReal.coe_le_coe_iff]
      have := hi j
      rw [hr, hr, EReal.coe_le_coe_iff] at this
      linarith
    rw [h1, hv, sub_self, EReal.coe_zero, max_eq_right bot_le]
  have hs : ∀ x : EReal, x - 0 = x := fun x => by rw [sub_eq_add_neg, neg_zero, add_zero]
  have hn : (∑ j, Ideal.exp (l j - top l)) ≠ 0 := by
    rw [Finset.sum_congr rfl fun j _ => exp_shift hr hi j, ← coe_sum_real]
    exact sum_exp_ne r i
  unfold refSoft soft
  rw [ht]
  simp only [hs, zero_add]
  exact (Ideal.mul_one_div hn).symm

end

/-- A product sum of real vectors is real. -/
theorem dot_real {n : ℕ} (a b : Fin n → EReal) (ha : ∀ k, ∃ r : ℝ, a k = r) (hb : ∀ k, ∃ r : ℝ, b k = r) :
    ∃ r : ℝ, ∑ k, a k * b k = r := by
  choose x hx using ha
  choose y hy using hb
  refine ⟨∑ k, x k * y k, ?_⟩
  rw [coe_sum_real]
  exact Finset.sum_congr rfl fun k _ => by rw [hx, hy, EReal.coe_mul]

end Cert.Proof.Moe

end
-- ==== Proof.GateCols.lean ====
/-
  What the gating body computes for one token, over the extended reals: its score plane read at (expert, token), the greatest
  score and its place, the second greatest and its place, as functions of the token's column of logits.
-/
module

public import proofs.«01_k».proof.Proof.Soft
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 4096

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

/-! ## The reductions down a column -/

/-- The greatest of a plane's column. -/
theorem maxRows_apply (v : FVec Ideal S64x4096 .f32) (c : Fin 4096) :
    multiReduction .maximumf [0] S4096 v 0xFF800000#32 reduces_S64x4096_S4096 (.inl rfl) rfl (ix1 c) = top fun e => v (ix2 e c) := by
  refine (Ideal.multiReduction_maximumf_single v _ reduces_S64x4096_S4096 _ _ (ix1 c)).trans ?_
  have hb : (FloatOps.ofBits .f32 0xFF800000#32 : Ideal .f32) = (⊥ : EReal) := by
    show Ideal.ofBits .f32 0xFF800000#32 = ⊥
    simp [Ideal.ofBits, Ideal.ieee]
  rw [hb]
  unfold top
  congr 1
  funext e
  exact congrArg v (by funext a; match a with | ⟨0, _⟩ => rfl | ⟨1, _⟩ => rfl)

/-- The sum of a plane's column. -/
theorem addRows_apply (v : FVec Ideal S64x4096 .f32) (c : Fin 4096) :
    multiReduction .add [0] S4096 v 0x00000000#32 reduces_S64x4096_S4096 (.inl rfl) rfl (ix1 c) = ∑ e : Fin 64, v (ix2 e c) := by
  refine (Ideal.multiReduction_add_single v _ reduces_S64x4096_S4096 _ _ (ix1 c)).trans ?_
  exact Finset.sum_congr rfl fun e _ => congrArg v (by funext a; match a with | ⟨0, _⟩ => rfl | ⟨1, _⟩ => rfl)

/-- The least word of a plane's column. -/
theorem minRows_apply (v : IVec S64x4096 32) (c : Fin 4096) :
    multiReductionI .minsi [0] S4096 v 2147483647#32 reduces_S64x4096_S4096 rfl (ix1 c)
      = (List.finRange 64).foldl (fun acc r => IntOp.minsi acc (v (ix2 r c))) 2147483647#32 := by
  refine (reduceFold_rows reduces_S64x4096_S4096 _ _ v (ix1 c)).trans ?_
  congr 1
  funext acc r
  exact congrArg (fun i => IntOp.minsi acc (v i)) (by funext a; match a with | ⟨0, _⟩ => rfl | ⟨1, _⟩ => rfl)

/-! ## The scores -/

/-- The logits of token `c` of a block: the router's rows against the token's hidden state. -/
def logits (x0 : Vec Ideal S1x4096x1024 .f32) (x1 : Vec Ideal S64x1024 .f32) (c : Fin 4096) : Fin 64 → EReal :=
  fun e => ∑ k : Fin 1024, x1 (ix2 e k) * x0 (ix3 (0 : Fin 1) c k)

/-- The product on the matrix unit read at (expert, token). -/
theorem gateDot_apply (x0 : Vec Ideal S1x4096x1024 .f32) (x1 : Vec Ideal S64x1024 .f32) (e : Fin 64) (c : Fin 4096) :
    matmul (φ₁ := .f32) (φ₂ := .f32) dot_S64x1024_S4096x1024_S64x4096_1_1_0_0_n_n none (x1 : FVec Ideal S64x1024 .f32)
      (shapeCast S4096x1024 x0 shapeCasts_S1x4096x1024_S4096x1024 : FVec Ideal S4096x1024 .f32) (constant S64x4096 .f32 0x00000000#32) (ix2 e c) = logits x0 x1 c e := by
  refine (Ideal.matmul_transposedRhs_apply (M := 64) (K := 1024) (N := 4096) none _ _ _ e c).trans ?_
  have hz : (constant (F := Ideal) S64x4096 .f32 0x00000000#32 (ix2 e c) : EReal) = 0 := by
    show Ideal.ofBits .f32 0x00000000#32 = 0
    exact Ideal.ofBits_zero_f32
  refine (congrArg (· + _) hz).trans ?_
  rw [zero_add]
  refine Finset.sum_congr rfl fun k _ => ?_
  exact congrArg (x1 (ix2 e k) * ·) (shapeCast_1ab_ab_apply (a := 4096) (b := 1024) x0 shapeCasts_S1x4096x1024_S4096x1024 c k)

/-- A row of 4096 spread down the 64 experts. -/
theorem spread_apply {α : Type} (v : S4096.Idx → α) (e : Fin 64) (c : Fin 4096) :
    broadcastTo S64x4096 (shapeCast S1x4096 v shapeCasts_S4096_S1x4096) broadcasts_S1x4096_S64x4096 (ix2 e c) = v (ix1 c) :=
  (broadcastTo_1b_ab_apply (a := 64) (b := 4096) _ broadcasts_S1x4096_S64x4096 e c).trans
    (shapeCast_a_1a_apply (a := 4096) v shapeCasts_S4096_S1x4096 0 c)

/-- The shifted exponentials of every column of a plane of logits. -/
def expPlane (M : FVec Ideal S64x4096 .f32) : FVec Ideal S64x4096 .f32 :=
  exp (subf M (broadcastTo S64x4096 (shapeCast S1x4096
    (multiReduction .maximumf [0] S4096 M 0xFF800000#32 reduces_S64x4096_S4096 (.inl rfl) rfl) shapeCasts_S4096_S1x4096) broadcasts_S1x4096_S64x4096))

theorem expPlane_apply (M : FVec Ideal S64x4096 .f32) (j : Fin 64) (c : Fin 4096) :
    expPlane M (ix2 j c) = Ideal.exp (M (ix2 j c) - top fun j => M (ix2 j c)) := by
  show Ideal.exp (_ - _) = _
  rw [spread_apply, maxRows_apply]

/-- The reciprocal of every column's sum of exponentials, as a row. -/
def recipRow (M : FVec Ideal S64x4096 .f32) : FVec Ideal S1x4096 .f32 :=
  divf (broadcast S1x4096 (Scalar.ofBits .f32 0x3F800000#32)) (shapeCast S1x4096
    (multiReduction .add [0] S4096 (expPlane M) 0x00000000#32 reduces_S64x4096_S4096 (.inl rfl) rfl) shapeCasts_S4096_S1x4096)

theorem recipRow_apply (M : FVec Ideal S64x4096 .f32) (c : Fin 4096) :
    recipRow M (ix2 0 c) = Ideal.div 1 (∑ j : Fin 64, Ideal.exp (M (ix2 j c) - top fun j => M (ix2 j c))) := by
  have h1 : (broadcast S1x4096 (Scalar.ofBits (F := Ideal) .f32 0x3F800000#32) (ix2 0 c) : EReal) = 1 := by
    show Ideal.ofBits .f32 0x3F800000#32 = 1
    exact Ideal.ofBits_one_f32
  have h2 := (shapeCast_a_1a_apply (a := 4096) _ shapeCasts_S4096_S1x4096 0 c).trans (addRows_apply (expPlane M) c)
  have h3 := h2.trans (Finset.sum_congr rfl fun j _ => expPlane_apply M j c)
  unfold recipRow
  rw [divf_apply, h1, h3]

/-- The softmax of every column of a plane of logits, as the body computes it. -/
def softPlane (M : FVec Ideal S64x4096 .f32) : FVec Ideal S64x4096 .f32 :=
  mulf (expPlane M) (broadcastTo S64x4096 (recipRow M) broadcasts_S1x4096_S64x4096)

theorem softPlane_apply (M : FVec Ideal S64x4096 .f32) (e : Fin 64) (c : Fin 4096) : softPlane M (ix2 e c) = soft (fun j => M (ix2 j c)) e :=
  by
  have h := (broadcastTo_1b_ab_apply (a := 64) (b := 4096) (recipRow M) broadcasts_S1x4096_S64x4096 e c).trans (recipRow_apply M c)
  unfold softPlane soft
  rw [mulf_apply, expPlane_apply, h]

/-- The score plane at (expert, token). -/
theorem scores_apply (x0 : Vec Ideal S1x4096x1024 .f32) (x1 : Vec Ideal S64x1024 .f32) (e : Fin 64) (c : Fin 4096) :
    k0_pay6 (F := Ideal) x0 x1 (ix2 e c) = soft (logits x0 x1 c) e := by
  have h : k0_pay6 (F := Ideal) x0 x1 = softPlane (matmul (φ₁ := .f32) (φ₂ := .f32) dot_S64x1024_S4096x1024_S64x4096_1_1_0_0_n_n none
      (x1 : FVec Ideal S64x1024 .f32) (shapeCast S4096x1024 x0 shapeCasts_S1x4096x1024_S4096x1024 : FVec Ideal S4096x1024 .f32)
      (constant S64x4096 .f32 0x00000000#32)) := by
    unfold k0_pay6 softPlane recipRow expPlane
    rfl
  rw [h, softPlane_apply]
  exact congrArg (fun l => soft l e) (funext fun j => gateDot_apply x0 x1 j c)

/-! ## The two places -/

/-- Row numbers where a plane meets a row of values, 63 elsewhere: the least down a column. -/
theorem search_apply (v : FVec Ideal S64x4096 .f32) (w : FVec Ideal S1x4096 .f32) (c : Fin 4096)
    (hw : w (ix2 0 c) = top fun e => v (ix2 e c)) :
    multiReductionI .minsi [0] S4096 (select (cmpf .oeq v (broadcastTo S64x4096 w broadcasts_S1x4096_S64x4096))
        (iota .tc S64x4096 32 [0] iota_S64x4096_d0_w32) (broadcast S64x4096 63#32)) 2147483647#32 reduces_S64x4096_S4096 rfl (ix1 c)
      = BitVec.ofNat 32 (first fun e => v (ix2 e c)).val := by
  rw [minRows_apply, ← minList_top]
  congr 1
  funext acc r
  congr 1
  show (if BitVec.ofBool (decide (v (ix2 r c) = broadcastTo S64x4096 w broadcasts_S1x4096_S64x4096 (ix2 r c))) = 1#1
    then iota .tc S64x4096 32 [0] iota_S64x4096_d0_w32 (ix2 r c) else 63#32 : BitVec 32) = _
  have e1 : broadcastTo S64x4096 w broadcasts_S1x4096_S64x4096 (ix2 r c) = top fun e => v (ix2 e c) :=
    (broadcastTo_1b_ab_apply (a := 64) (b := 4096) w broadcasts_S1x4096_S64x4096 r c).trans hw
  have e2 : iota .tc S64x4096 32 [0] iota_S64x4096_d0_w32 (ix2 r c) = BitVec.ofNat 32 r.val := by
    show BitVec.ofNat 32 (0 * 64 + r.val) = _
    rw [Nat.zero_mul, Nat.zero_add]
  rw [e1, e2]
  by_cases h : v (ix2 r c) = top fun e => v (ix2 e c)
  · rw [if_pos h, decide_eq_true h]; rfl
  · rw [if_neg h, decide_eq_false h]; rfl

variable (x0 : Vec Ideal S1x4096x1024 .f32) (x1 : Vec Ideal S64x1024 .f32) (c : Fin 4096)

/-- The token's column of scores. -/
def column : Fin 64 → EReal := soft (logits x0 x1 c)

/-- The greatest score. -/
theorem best_apply : k0_pay7 (F := Ideal) x0 x1 (ix2 0 c) = top (column x0 x1 c) := by
  unfold k0_pay7
  dsimp only
  refine (shapeCast_a_1a_apply (a := 4096) _ shapeCasts_S4096_S1x4096 0 c).trans ?_
  rw [maxRows_apply]
  exact congrArg top (funext fun e => scores_apply x0 x1 e c)

/-- Its place. -/
theorem place1_apply : k0_pay8 (F := Ideal) x0 x1 (ix1 c) = BitVec.ofNat 32 (first (column x0 x1 c)).val := by
  have e : (fun e => k0_pay6 (F := Ideal) x0 x1 (ix2 e c)) = column x0 x1 c := funext fun e => scores_apply x0 x1 e c
  unfold k0_pay8
  dsimp only
  rw [search_apply _ _ c ((best_apply x0 x1 c).trans (congrArg top e.symm)), e]

/-- The score plane with the first place blotted out. -/
theorem blot_apply (e : Fin 64) : k0_pay9 (F := Ideal) x0 x1 (ix2 e c) = blot (column x0 x1 c) (first (column x0 x1 c)) e := by
  unfold k0_pay9
  dsimp only
  show (if BitVec.ofBool (iota .tc S64x4096 32 [0] iota_S64x4096_d0_w32 (ix2 e c)
      == broadcastTo S64x4096 (shapeCast S1x4096 (k0_pay8 (F := Ideal) x0 x1) shapeCasts_S4096_S1x4096) broadcasts_S1x4096_S64x4096 (ix2 e c)) = 1#1
    then Ideal.ofBits .f32 0xBF800000#32 else k0_pay6 (F := Ideal) x0 x1 (ix2 e c)) = _
  rw [spread_apply, place1_apply, scores_apply]
  have e2 : iota .tc S64x4096 32 [0] iota_S64x4096_d0_w32 (ix2 e c) = BitVec.ofNat 32 e.val := by
    show BitVec.ofNat 32 (0 * 64 + e.val) = _
    rw [Nat.zero_mul, Nat.zero_add]
  rw [e2]
  have hm : Ideal.ofBits .f32 0xBF800000#32 = (-1 : EReal) := by
    have : Ideal.ofBits .f32 0xBF800000#32 = ((-(1 : ℝ)) : EReal) := by
      simp [Ideal.ofBits, Ideal.ieee]
      rw [← EReal.coe_mul]; norm_num
    rw [this]; norm_num
  rw [hm]
  unfold blot
  set i := first (column x0 x1 c)
  by_cases h : e = i
  · rw [if_pos h, h, beq_self_eq_true]; rfl
  · have h' : (BitVec.ofNat 32 e.val == BitVec.ofNat 32 i.val) = false := by
      rw [beq_eq_false_iff_ne]
      intro hb
      have := congrArg BitVec.toNat hb
      rw [BitVec.toNat_ofNat, BitVec.toNat_ofNat] at this
      have h1 := e.isLt
      have h2 := i.isLt
      exact h (Fin.ext (by omega))
    rw [if_neg h, h']; rfl

/-- The second greatest score. -/
theorem next_apply : k0_pay10 (F := Ideal) x0 x1 (ix2 0 c) = top (blot (column x0 x1 c) (first (column x0 x1 c))) := by
  unfold k0_pay10
  dsimp only
  refine (shapeCast_a_1a_apply (a := 4096) _ shapeCasts_S4096_S1x4096 0 c).trans ?_
  rw [maxRows_apply]
  exact congrArg top (funext fun e => blot_apply x0 x1 c e)

/-- Its place. -/
theorem place2_apply : k0_pay11 (F := Ideal) x0 x1 (ix1 c) = BitVec.ofNat 32 (second (column x0 x1 c)).val := by
  have e : (fun e => k0_pay9 (F := Ideal) x0 x1 (ix2 e c)) = blot (column x0 x1 c) (first (column x0 x1 c)) := funext fun e => blot_apply x0 x1 c e
  unfold k0_pay11
  dsimp only
  rw [search_apply _ _ c ((next_apply x0 x1 c).trans (congrArg top e.symm)), e]
  rfl

/-! ## The five blocks that leave -/

theorem out1_apply : k0_pay12 (F := Ideal) x0 x1 (ix3 0 0 c) = BitVec.ofNat 32 (first (column x0 x1 c)).val := by
  unfold k0_pay12
  refine (shapeCast_ab_1ab_apply (a := 1) (b := 4096) _ shapeCasts_S1x4096_S1x1x4096 0 0 c).trans ?_
  exact (shapeCast_a_1a_apply (a := 4096) _ shapeCasts_S4096_S1x4096 0 c).trans (place1_apply x0 x1 c)

theorem out2_apply : k0_pay1 (k0_pay11 (F := Ideal) x0 x1) (ix3 0 0 c) = BitVec.ofNat 32 (second (column x0 x1 c)).val := by
  unfold k0_pay1
  refine (shapeCast_ab_1ab_apply (a := 1) (b := 4096) _ shapeCasts_S1x4096_S1x1x4096 0 0 c).trans ?_
  exact (shapeCast_a_1a_apply (a := 4096) _ shapeCasts_S4096_S1x4096 0 c).trans (place2_apply x0 x1 c)

theorem out3_apply : k0_pay2 (k0_pay7 (F := Ideal) x0 x1) (ix3 0 0 c) = top (column x0 x1 c) := by
  unfold k0_pay2
  exact (shapeCast_ab_1ab_apply (a := 1) (b := 4096) _ shapeCasts_S1x4096_S1x1x4096 0 0 c).trans (best_apply x0 x1 c)

theorem out4_apply : k0_pay3 (k0_pay10 (F := Ideal) x0 x1) (ix3 0 0 c) = top (blot (column x0 x1 c) (first (column x0 x1 c))) := by
  unfold k0_pay3
  exact (shapeCast_ab_1ab_apply (a := 1) (b := 4096) _ shapeCasts_S1x4096_S1x1x4096 0 0 c).trans (next_apply x0 x1 c)

/-- The sums of a plane's rows, by a product with a column of ones. -/
theorem rowSums_apply (s : FVec Ideal S64x4096 .f32) (e : Fin 64) :
    matmul (φ₁ := .f32) (φ₂ := .f32) dot_S64x4096_S4096x1_S64x1_1_0_0_1_n_n none s
      (broadcast S4096x1 (Scalar.ofBits (F := Ideal) .f32 0x3F800000#32) : FVec Ideal S4096x1 .f32) (constant S64x1 .f32 0x00000000#32) (ix2 e 0)
      = ∑ c : Fin 4096, s (ix2 e c) := by
  refine (Ideal.matmul_plain_apply (M := 64) (K := 4096) (N := 1) none _ _ _ e 0).trans ?_
  have hz : (constant (F := Ideal) S64x1 .f32 0x00000000#32 (ix2 e 0) : EReal) = 0 := by
    show Ideal.ofBits .f32 0x00000000#32 = 0
    exact Ideal.ofBits_zero_f32
  refine (congrArg (· + _) hz).trans ?_
  rw [zero_add]
  refine Finset.sum_congr rfl fun c _ => ?_
  have ho : (broadcast S4096x1 (Scalar.ofBits (F := Ideal) .f32 0x3F800000#32) (ix2 c 0) : EReal) = 1 := by
    show Ideal.ofBits .f32 0x3F800000#32 = 1
    exact Ideal.ofBits_one_f32
  exact (congrArg (s (ix2 e c) * ·) ho).trans (mul_one _)

/-- The running sum of expert `e`'s scores: what was there plus the block's sum. -/
theorem accum_apply (v : FVec Ideal S1x64x1 .f32) (e : Fin 64) :
    k0_pay5 (F := Ideal) (k0_pay6 (F := Ideal) x0 x1) v (ix3 0 e 0) = v (ix3 0 e 0) + ∑ c : Fin 4096, column x0 x1 c e := by
  have h1 : shapeCast S1x64x1 v shapeCasts_S1x64x1_S1x64x1 (ix3 0 e 0) = v (ix3 0 e 0) :=
    shapeCast_apply v shapeCasts_S1x64x1_S1x64x1 _ _ rfl
  have h2 := (shapeCast_ab_1ab_apply (a := 64) (b := 1) _ shapeCasts_S64x1_S1x64x1 0 e 0).trans (rowSums_apply (k0_pay6 (F := Ideal) x0 x1) e)
  have h3 : ∑ c : Fin 4096, k0_pay6 (F := Ideal) x0 x1 (ix2 e c) = ∑ c : Fin 4096, column x0 x1 c e :=
    Finset.sum_congr rfl fun c _ => scores_apply x0 x1 e c
  unfold k0_pay5
  exact congrArg₂ (fun a b : EReal => a + b) h1 (h2.trans h3)

end Cert.Proof.Moe

end
-- ==== Proof.Planes.lean ====
/-
  The five arrays that the gating region leaves, as whole arrays over the extended reals: for every sequence and token the
  places and the scores of the two best experts, and for every sequence and expert the sum of the scores over its tokens.
-/
module

public import proofs.«01_k».proof.Proof.GateCols
public import proofs.«01_k».proof.Proof.Ends
public import Idealize.ShloMosaic.Lib.Pipeline.ValueKit

@[expose] public section

set_option maxRecDepth 16384

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

/-! ## A token's column from the whole arrays -/

/-- The logits of token `n` of sequence `b`. -/
def tokLogits (H : FVec Ideal S4x8192x1024 .f32) (W : FVec Ideal S64x1024 .f32) (b : Fin 4) (n : Fin 8192) : Fin 64 → EReal :=
  fun e => ∑ k : Fin 1024, W (ix2 e k) * H (ix3 b n k)

/-- Its scores. -/
def tokCol (H : FVec Ideal S4x8192x1024 .f32) (W : FVec Ideal S64x1024 .f32) (b : Fin 4) (n : Fin 8192) : Fin 64 → EReal :=
  soft (tokLogits H W b n)

/-! ## Where the blocks lie -/

/-- The sequence of grid point `t`. -/
def seqOf (t : Fin cfg0.N) : Fin 4 := ⟨t.val / 2, by have : t.val < 8 := t.isLt; omega⟩
/-- The token that lane `c` of grid point `t` holds. -/
def tokOf (t : Fin cfg0.N) (c : Fin 4096) : Fin 8192 := ⟨t.val % 2 * 4096 + c.val, by have := c.isLt; omega⟩

theorem ixw0 : ∀ t : Fin cfg0.N, win0_0.index t = ![t.val / 2, t.val % 2, 0] := (by decide +kernel : ∀ t : Fin grid0.N, _)
theorem ixw1 : ∀ t : Fin cfg0.N, win0_1.index t = ![0, 0] := (by decide +kernel : ∀ t : Fin grid0.N, _)
theorem ixw2 : ∀ t : Fin cfg0.N, win0_2.index t = ![t.val / 2, 0, t.val % 2] := (by decide +kernel : ∀ t : Fin grid0.N, _)
theorem ixw3 : ∀ t : Fin cfg0.N, win0_3.index t = ![t.val / 2, 0, t.val % 2] := (by decide +kernel : ∀ t : Fin grid0.N, _)
theorem ixw4 : ∀ t : Fin cfg0.N, win0_4.index t = ![t.val / 2, 0, t.val % 2] := (by decide +kernel : ∀ t : Fin grid0.N, _)
theorem ixw5 : ∀ t : Fin cfg0.N, win0_5.index t = ![t.val / 2, 0, t.val % 2] := (by decide +kernel : ∀ t : Fin grid0.N, _)
theorem ixw6 : ∀ t : Fin cfg0.N, win0_6.index t = ![t.val / 2, 0, 0] := (by decide +kernel : ∀ t : Fin grid0.N, _)

theorem emb0 (t : Fin cfg0.N) (c : Fin 4096) (k : Fin 1024) :
    ((cfg0.win 0).blk t).view.emb (ix3 (0 : Fin 1) c k) = ix3 (seqOf t) (tokOf t c) k := by
  blk_ext [ixw0 t, seqOf, tokOf]
theorem emb1 (t : Fin cfg0.N) (e : Fin 64) (k : Fin 1024) : ((cfg0.win 1).blk t).view.emb (ix2 e k) = ix2 e k := by
  blk_ext [ixw1 t]
theorem emb2 (t : Fin cfg0.N) (c : Fin 4096) : ((cfg0.win 2).blk t).view.emb (ix3 (0 : Fin 1) (0 : Fin 1) c) = ix3 (seqOf t) (0 : Fin 1) (tokOf t c) := by
  blk_ext [ixw2 t, seqOf, tokOf]
theorem emb3 (t : Fin cfg0.N) (c : Fin 4096) : ((cfg0.win 3).blk t).view.emb (ix3 (0 : Fin 1) (0 : Fin 1) c) = ix3 (seqOf t) (0 : Fin 1) (tokOf t c) := by
  blk_ext [ixw3 t, seqOf, tokOf]
theorem emb4 (t : Fin cfg0.N) (c : Fin 4096) : ((cfg0.win 4).blk t).view.emb (ix3 (0 : Fin 1) (0 : Fin 1) c) = ix3 (seqOf t) (0 : Fin 1) (tokOf t c) := by
  blk_ext [ixw4 t, seqOf, tokOf]
theorem emb5 (t : Fin cfg0.N) (c : Fin 4096) : ((cfg0.win 5).blk t).view.emb (ix3 (0 : Fin 1) (0 : Fin 1) c) = ix3 (seqOf t) (0 : Fin 1) (tokOf t c) := by
  blk_ext [ixw5 t, seqOf, tokOf]
theorem emb6 (t : Fin cfg0.N) (e : Fin 64) : ((cfg0.win 6).blk t).view.emb (ix3 (0 : Fin 1) e (0 : Fin 1)) = ix3 (seqOf t) e (0 : Fin 1) := by
  blk_ext [ixw6 t, seqOf]

end Cert.Proof.Moe

end
-- ==== Proof.PlaneVals.lean ====
/-
  The gating region's five result arrays as functions of the hidden states and the router's weights.
-/
module

public import proofs.«01_k».proof.Proof.Planes

@[expose] public section

set_option maxRecDepth 16384

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

variable (m : (ℓ : Loc nD τ sig) → Buf (Elt Ideal) ℓ) (d : Dev nD)

/-- The hidden states of device `d`. -/
def hidden : FVec Ideal S4x8192x1024 .f32 := m (d, Proc.devRef .tc main_arg0)
/-- Its router weights. -/
def router : FVec Ideal S64x1024 .f32 := m (d, Proc.devRef .tc main_arg1)

theorem hsBlk_apply (t : Fin cfg0.N) (c : Fin 4096) (k : Fin 1024) :
    hsBlk (X0 m) d t (ix3 (0 : Fin 1) c k) = hidden m d (ix3 (seqOf t) (tokOf t c) k) := by
  have h : hsBlk (X0 m) d t (ix3 (0 : Fin 1) c k) = hidden m d (((cfg0.win 0).blk t).view.emb (ix3 (0 : Fin 1) c k)) := by
    unfold hsBlk
    rfl
  rw [h, emb0]

theorem wtBlk_apply (t : Fin cfg0.N) (e : Fin 64) (k : Fin 1024) : wtBlk (X0 m) d t (ix2 e k) = router m d (ix2 e k) := by
  have h : wtBlk (X0 m) d t (ix2 e k) = router m d (((cfg0.win 1).blk t).view.emb (ix2 e k)) := by
    unfold wtBlk
    rfl
  rw [h, emb1]

/-- A block's column is the column of the token it holds. -/
theorem column_eq (t : Fin cfg0.N) (c : Fin 4096) :
    column (hsBlk (X0 m) d t) (wtBlk (X0 m) d t) c = tokCol (hidden m d) (router m d) (seqOf t) (tokOf t c) := by
  unfold column tokCol
  congr 1
  funext e
  unfold logits tokLogits
  exact Finset.sum_congr rfl fun k _ => by rw [hsBlk_apply, wtBlk_apply]

/-! ## The planes as the specification says them -/

/-- The place of each token's best score. -/
def place1 (i : S4x1x8192.Idx) : BitVec 32 := BitVec.ofNat 32 (first (tokCol (hidden m d) (router m d) (i 0) (i 2))).val
/-- The place of its second best. -/
def place2 (i : S4x1x8192.Idx) : BitVec 32 := BitVec.ofNat 32 (second (tokCol (hidden m d) (router m d) (i 0) (i 2))).val
/-- The best score. -/
def score1 (i : S4x1x8192.Idx) : EReal := top (tokCol (hidden m d) (router m d) (i 0) (i 2))
/-- The second best. -/
def score2 (i : S4x1x8192.Idx) : EReal :=
  top (blot (tokCol (hidden m d) (router m d) (i 0) (i 2)) (first (tokCol (hidden m d) (router m d) (i 0) (i 2))))

/-- An index of a block of one row of tokens is its lane. -/
theorem lane_eq (y : S1x1x4096.Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

theorem id1Arr_eq : id1Arr m d = place1 m d := by
  have e : X1 m d (Proc.devRef .tc main_v0_0) = (dat0 (X0 m) d).arrAt 2 cfg0.N := Pipeline.afterRegion_arr (dat0 (X0 m) d) (X0 m d) inj0 2
  unfold id1Arr
  refine e.trans ((dat0 (X0 m) d).arrAt_eq_of_covers 2 (place1 m d) (by decide +kernel) fun t hf y => ?_)
  show (dat0 (X0 m) d).after 2 t y = place1 m d (((cfg0.win 2).blk t).view.emb y)
  rw [after0_2]
  obtain ⟨c, rfl⟩ : ∃ c : Fin 4096, y = ix3 (0 : Fin 1) (0 : Fin 1) c := ⟨_, lane_eq y⟩
  rw [emb2]
  exact (out1_apply _ _ c).trans (by rw [column_eq]; rfl)

theorem id2Arr_eq : id2Arr m d = place2 m d := by
  have e : X1 m d (Proc.devRef .tc main_v0_1) = (dat0 (X0 m) d).arrAt 3 cfg0.N := Pipeline.afterRegion_arr (dat0 (X0 m) d) (X0 m d) inj0 3
  unfold id2Arr
  refine e.trans ((dat0 (X0 m) d).arrAt_eq_of_covers 3 (place2 m d) (by decide +kernel) fun t hf y => ?_)
  show (dat0 (X0 m) d).after 3 t y = place2 m d (((cfg0.win 3).blk t).view.emb y)
  rw [after0_3]
  obtain ⟨c, rfl⟩ : ∃ c : Fin 4096, y = ix3 (0 : Fin 1) (0 : Fin 1) c := ⟨_, lane_eq y⟩
  rw [emb3]
  exact (out2_apply _ _ c).trans (by rw [column_eq]; rfl)

theorem w1Arr_eq : w1Arr m d = score1 m d := by
  have e : X1 m d (Proc.devRef .tc main_v0_2) = (dat0 (X0 m) d).arrAt 4 cfg0.N := Pipeline.afterRegion_arr (dat0 (X0 m) d) (X0 m d) inj0 4
  unfold w1Arr
  refine e.trans ((dat0 (X0 m) d).arrAt_eq_of_covers 4 (score1 m d) (by decide +kernel) fun t hf y => ?_)
  show (dat0 (X0 m) d).after 4 t y = score1 m d (((cfg0.win 4).blk t).view.emb y)
  rw [after0_4]
  obtain ⟨c, rfl⟩ : ∃ c : Fin 4096, y = ix3 (0 : Fin 1) (0 : Fin 1) c := ⟨_, lane_eq y⟩
  rw [emb4]
  exact (out3_apply _ _ c).trans (by rw [column_eq]; rfl)

theorem w2Arr_eq : w2Arr m d = score2 m d := by
  have e : X1 m d (Proc.devRef .tc main_v0_3) = (dat0 (X0 m) d).arrAt 5 cfg0.N := Pipeline.afterRegion_arr (dat0 (X0 m) d) (X0 m d) inj0 5
  unfold w2Arr
  refine e.trans ((dat0 (X0 m) d).arrAt_eq_of_covers 5 (score2 m d) (by decide +kernel) fun t hf y => ?_)
  show (dat0 (X0 m) d).after 5 t y = score2 m d (((cfg0.win 5).blk t).view.emb y)
  rw [after0_5]
  obtain ⟨c, rfl⟩ : ∃ c : Fin 4096, y = ix3 (0 : Fin 1) (0 : Fin 1) c := ⟨_, lane_eq y⟩
  rw [emb5]
  exact (out4_apply _ _ c).trans (by rw [column_eq]; rfl)

/-! ## The sums over a sequence -/

/-- The sum of an expert's scores over the tokens of a sequence. -/
def scoreSum (i : S4x64x1.Idx) : EReal := ∑ n : Fin 8192, tokCol (hidden m d) (router m d) (i 0) n (i 1)

/-- A sum over the tokens is the sum over the first half and the sum over the second. -/
theorem sum_halves (f : Fin 8192 → EReal) :
    ∑ n, f n = (∑ c : Fin 4096, f ⟨0 * 4096 + c.val, by have := c.isLt; omega⟩) + ∑ c : Fin 4096, f ⟨1 * 4096 + c.val, by have := c.isLt; omega⟩ := by
  have h := Fin.sum_univ_add (M := EReal) (a := 4096) (b := 4096) (fun i : Fin (4096 + 4096) => f i)
  refine h.trans (congrArg₂ (· + ·) (Finset.sum_congr rfl fun c _ => congrArg f (Fin.ext ?_)) (Finset.sum_congr rfl fun c _ => congrArg f (Fin.ext ?_)))
  · show c.val = 0 * 4096 + c.val
    omega
  · show 4096 + c.val = 1 * 4096 + c.val
    omega

/-- The block of sums goes back at the odd grid points only. -/
theorem flush6 : ∀ t : Fin cfg0.N, (cfg0.win 6).flush t = true → t.val % 2 = 1 := (by decide +kernel : ∀ t : Fin grid0.N, _)

/-- An index of a block of one column of experts is its expert. -/
theorem expert_eq (y : S1x64x1.Idx) : y = ix3 (0 : Fin 1) (y 1) (0 : Fin 1) := by
  funext a
  match a with
  | ⟨0, _⟩ => exact Subsingleton.elim (α := Fin 1) _ _
  | ⟨1, _⟩ => rfl
  | ⟨2, _⟩ => exact Subsingleton.elim (α := Fin 1) _ _

theorem zero_block (i : S1x64x1.Idx) : (k0_pay4 (F := Ideal) i : EReal) = 0 := by
  unfold k0_pay4
  show Ideal.ofBits .f32 0x00000000#32 = 0
  exact Ideal.ofBits_zero_f32

/-- What the block of sums holds after an odd grid point. -/
theorem acc_odd (t : Fin cfg0.N) (h : t.val % 2 = 1) (e : Fin 64) :
    accAt (X0 m) d t.val t.isLt (ix3 (0 : Fin 1) e (0 : Fin 1)) = ∑ n : Fin 8192, tokCol (hidden m d) (router m d) (seqOf t) n e := by
  have ht : t.val < 8 := t.isLt
  have hN : cfg0.N = 8 := rfl
  let s : Fin cfg0.N := ⟨t.val - 1, by omega⟩
  have hs : s.val % 2 = 0 := by show (t.val - 1) % 2 = 0; omega
  have es : seqOf s = seqOf t := Fin.ext (by show (t.val - 1) / 2 = t.val / 2; omega)
  rw [accAt_odd (X0 m) d t (by omega), accum_apply]
  have e1 : accAt (X0 m) d (t.val - 1) s.isLt (ix3 (0 : Fin 1) e (0 : Fin 1)) = ∑ c : Fin 4096, tokCol (hidden m d) (router m d) (seqOf t) (tokOf s c) e := by
    rw [accAt_even (X0 m) d s hs, accum_apply, zero_block, zero_add]
    exact Finset.sum_congr rfl fun c _ => by rw [column_eq, es]
  have e2 : ∑ c : Fin 4096, column (hsBlk (X0 m) d t) (wtBlk (X0 m) d t) c e = ∑ c : Fin 4096, tokCol (hidden m d) (router m d) (seqOf t) (tokOf t c) e :=
    Finset.sum_congr rfl fun c _ => by rw [column_eq]
  rw [e2, sum_halves (fun n => tokCol (hidden m d) (router m d) (seqOf t) n e)]
  refine congrArg₂ (fun a b : EReal => a + b) (e1.trans (Finset.sum_congr rfl fun c _ => ?_)) (Finset.sum_congr rfl fun c _ => ?_)
  · exact congrArg (fun n => tokCol (hidden m d) (router m d) (seqOf t) n e) (Fin.ext (by show (t.val - 1) % 2 * 4096 + c.val = 0 * 4096 + c.val; omega))
  · exact congrArg (fun n => tokCol (hidden m d) (router m d) (seqOf t) n e) (Fin.ext (by show t.val % 2 * 4096 + c.val = 1 * 4096 + c.val; omega))

theorem sumArr_eq : sumArr m d = scoreSum m d := by
  have e : X1 m d (Proc.devRef .tc main_v0_4) = (dat0 (X0 m) d).arrAt 6 cfg0.N := Pipeline.afterRegion_arr (dat0 (X0 m) d) (X0 m d) inj0 6
  unfold sumArr
  refine e.trans ((dat0 (X0 m) d).arrAt_eq_of_covers 6 (scoreSum m d) (by decide +kernel) fun t hf y => ?_)
  show (dat0 (X0 m) d).after 6 t y = scoreSum m d (((cfg0.win 6).blk t).view.emb y)
  rw [after0_6]
  obtain ⟨c, rfl⟩ : ∃ c : Fin 64, y = ix3 (0 : Fin 1) c (0 : Fin 1) := ⟨_, expert_eq y⟩
  rw [emb6, acc_odd m d t (flush6 t hf)]
  rfl

end Cert.Proof.Moe

end
-- ==== Proof.Counts.lean ====
/-
  The subcores' sums over the extended reals: a histogram is the number of tokens that name each expert, a subcore's sixteen
  partial sums add up to the counts times the score sums, and the combining region's scalar is the scale times all of these.
-/
module

public import proofs.«01_k».proof.Proof.Hist
public import proofs.«01_k».proof.Proof.Soft

@[expose] public section

set_option maxRecDepth 16384

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

/-! ## One scatter -/

/-- One where the word names the expert, nothing elsewhere. -/
def hit (w : BitVec 32) (e : Fin 64) : EReal := if w.toNat = e.val then 1 else 0

theorem foldl_hits {ι α : Type} (i : ι → α) (step : (α → EReal) → ι → α → EReal)
    (P : ι → α → Prop) [∀ k j, Decidable (P k j)]
    (hs : ∀ g k j, step g k j = if P k j then g (i k) + 1 else g j) (hP : ∀ k j, P k j → i k = j) :
    ∀ (l : List ι) (f : α → EReal) (j : α), l.foldl step f j = f j + (l.map fun k => if P k j then (1 : EReal) else 0).sum := by
  intro l
  induction l with
  | nil => intro f j; simp
  | cons k l ih =>
    intro f j
    rw [List.foldl_cons, ih, hs, List.map_cons, List.sum_cons]
    by_cases h : P k j
    · rw [if_pos h, if_pos h, hP k j h, add_assoc]
    · rw [if_neg h, if_neg h, zero_add]

/-- Sixteen tokens add, at each expert, the number of them that name it. -/
theorem histStep_apply (h : Vec Ideal S64 .f32) (v : Vec Ideal S16 .i32) (hv : ∀ l : Fin 16, (v (ix1 l)).toNat < 64) (e : Fin 64) :
    (histStep h v (ix1 e) : EReal) = h (ix1 e) + ∑ l : Fin 16, hit (v (ix1 l)) e := by
  have hb : k1_chk1 v := fun a x => by
    obtain rfl : a = 0 := Subsingleton.elim _ _
    rw [ValueIdx.eq_ix1 x]
    exact hv (x 0)
  unfold histStep
  rw [dif_pos hb]
  unfold storeIdx
  have hl : ∀ k : Fin 16, (Shape.ofLane (d := S16.size) k : S16.Idx) = ix1 k := fun k => by
    funext a
    obtain rfl : a = 0 := Subsingleton.elim _ _
    rfl
  refine (foldl_hits (ι := Fin 16) (α := S64.Idx) (fun k => idxAt ![v] (k1_idx1_inb v hb) (Shape.ofLane (d := S16.size) k)) _
    (fun k j => ∀ a, (j a).val = (idxAt ![v] (k1_idx1_inb v hb) (Shape.ofLane (d := S16.size) k) a).val) (fun g k j => ?_)
    (fun k j hj => funext fun a => Fin.ext (hj a).symm) (List.finRange 16) h (ix1 e)).trans ?_
  · refine (congrFun (if_pos rfl) j).trans ?_
    by_cases hj : ∀ a, (j a).val = (idxAt ![v] (k1_idx1_inb v hb) (Shape.ofLane (d := S16.size) k) a).val
    · refine (if_pos hj).trans (Eq.trans ?_ (if_pos hj).symm)
      exact congrArg (fun y : EReal => g _ + y) Ideal.ofBits_one_f32
    · exact (if_neg hj).trans (if_neg hj).symm
  · rw [Fin.sum_univ_def]
    congr 2
    refine List.map_congr_left fun k _ => ?_
    unfold hit
    congr 1
    refine propext ⟨fun hk => ?_, fun hk a => ?_⟩
    · have := hk 0
      rw [← hl]
      exact this.symm
    · obtain rfl : a = 0 := Subsingleton.elim _ _
      rw [← hl] at hk
      exact hk.symm

/-! ## A chunk -/

theorem win16_apply (a : Vec Ideal S1024 .i32) (n : ℕ) (h : n < 64) (l : Fin 16) :
    win16 a n h (ix1 l) = a (ix1 ⟨16 * n + l.val, by have := l.isLt; omega⟩) := by
  unfold win16
  congr 1
  funext c
  obtain rfl : c = 0 := Subsingleton.elim _ _
  rfl

theorem histUpTo_apply (h : Vec Ideal S64 .f32) (a : Vec Ideal S1024 .i32) (ha : ∀ t : Fin 1024, (a (ix1 t)).toNat < 64) (e : Fin 64) :
    ∀ n : ℕ, (hn : n ≤ 64) → (histUpTo h a n (ix1 e) : EReal)
      = h (ix1 e) + ∑ w : Fin n, ∑ l : Fin 16, hit (a (ix1 ⟨16 * w.val + l.val, by have := l.isLt; have := w.isLt; omega⟩)) e
  | 0, _ => by
      show h (ix1 e) = _
      simp
  | n + 1, hn => by
      have ih := histUpTo_apply h a ha e n (by omega)
      have hn' : n < 64 := by omega
      have e1 : histUpTo h a (n + 1) = histStep (histUpTo h a n) (win16 a n hn') := by
        show (if hn : n < 64 then histStep (histUpTo h a n) (win16 a n hn) else histUpTo h a n) = _
        rw [dif_pos hn']
      rw [e1, histStep_apply _ _ (fun l => by rw [win16_apply]; exact ha _), ih,
        Fin.sum_univ_castSucc (fun w : Fin (n + 1) => ∑ l : Fin 16, hit (a (ix1 ⟨16 * w.val + l.val, by have := l.isLt; have := w.isLt; omega⟩)) e), ← add_assoc]
      refine congrArg₂ (fun x y : EReal => x + y) rfl (Finset.sum_congr rfl fun l _ => ?_)
      rw [win16_apply]
      rfl

/-- A sum over 1024 tokens, window by window. -/
theorem sum_windows (f : Fin 1024 → EReal) :
    ∑ w : Fin 64, ∑ l : Fin 16, f ⟨16 * w.val + l.val, by have := l.isLt; have := w.isLt; omega⟩ = ∑ t : Fin 1024, f t := by
  rw [← Equiv.sum_comp (finProdFinEquiv (m := 64) (n := 16)) f, Fintype.sum_prod_type]
  refine Finset.sum_congr rfl fun w _ => Finset.sum_congr rfl fun l _ => congrArg f (Fin.ext ?_)
  show 16 * w.val + l.val = l.val + 16 * w.val
  omega

theorem histAll_apply (h : Vec Ideal S64 .f32) (a : Vec Ideal S1024 .i32) (ha : ∀ t : Fin 1024, (a (ix1 t)).toNat < 64) (e : Fin 64) :
    (histUpTo h a 64 (ix1 e) : EReal) = h (ix1 e) + ∑ t : Fin 1024, hit (a (ix1 t)) e := by
  rw [histUpTo_apply h a ha e 64 (le_refl _), ← sum_windows]

/-! ## A subcore's rows -/

variable (A1 A2 : Vec Ideal S32768 .i32) (A3 : Vec Ideal S256 .f32)

theorem off1_row : ∀ r : Fin 32, k1_off1 (rowCoords r) 0 = 64 * (r.val / 8) := by decide +kernel
theorem off2_row : ∀ r : Fin 32, k1_off2 (rowCoords r) 0 = 1024 * r.val := by decide +kernel

theorem ids1_apply (r : Fin 32) (t : Fin 1024) :
    (ids1 A1 (rowCoords r) : Vec Ideal S1024 .i32) (ix1 t) = A1 (ix1 ⟨1024 * r.val + t.val, by have := t.isLt; have := r.isLt; omega⟩) := by
  show A1 _ = _
  refine congrArg A1 (show (_ : S32768.Idx) = _ from funext fun (a : Fin 1) => ?_)
  obtain rfl : a = 0 := Subsingleton.elim _ _
  apply Fin.ext
  show k1_off2 (rowCoords r) 0 + 1 * t.val = _
  rw [off2_row, one_mul]

theorem ids2_apply (r : Fin 32) (t : Fin 1024) :
    (ids2 A2 (rowCoords r) : Vec Ideal S1024 .i32) (ix1 t) = A2 (ix1 ⟨1024 * r.val + t.val, by have := t.isLt; have := r.isLt; omega⟩) := by
  show A2 _ = _
  refine congrArg A2 (show (_ : S32768.Idx) = _ from funext fun (a : Fin 1) => ?_)
  obtain rfl : a = 0 := Subsingleton.elim _ _
  apply Fin.ext
  show k1_off2 (rowCoords r) 0 + 1 * t.val = _
  rw [off2_row, one_mul]

theorem sums_apply (r : Fin 32) (e : Fin 64) :
    (sums A3 (rowCoords r) : Vec Ideal S64 .f32) (ix1 e) = A3 (ix1 ⟨64 * (r.val / 8) + e.val, by have := e.isLt; have := r.isLt; omega⟩) := by
  show A3 _ = _
  refine congrArg A3 (show (_ : S256.Idx) = _ from funext fun (a : Fin 1) => ?_)
  obtain rfl : a = 0 := Subsingleton.elim _ _
  apply Fin.ext
  show k1_off1 (rowCoords r) 0 + 1 * e.val = _
  rw [off1_row, one_mul]

/-- How many of row `r`'s 2 · 1024 choices name expert `e`. -/
def rowCount (r : Fin 32) (e : Fin 64) : EReal :=
  (∑ t : Fin 1024, hit (A1 (ix1 ⟨1024 * r.val + t.val, by have := t.isLt; have := r.isLt; omega⟩)) e)
    + ∑ t : Fin 1024, hit (A2 (ix1 ⟨1024 * r.val + t.val, by have := t.isLt; have := r.isLt; omega⟩)) e

theorem tileHist_apply (h1 : ∀ j : S32768.Idx, (A1 j).toNat < 64) (h2 : ∀ j : S32768.Idx, (A2 j).toNat < 64) (r : Fin 32) (e : Fin 64) :
    (tileHist A1 A2 (rowCoords r) (ix1 e) : EReal) = rowCount A1 A2 r e := by
  unfold tileHist rowCount
  rw [histAll_apply _ _ (fun t => by rw [ids2_apply]; exact h2 _), histAll_apply _ _ (fun t => by rw [ids1_apply]; exact h1 _)]
  have h0 : (hist0 (F := Ideal) (ix1 e) : EReal) = 0 := Ideal.ofBits_zero_f32
  rw [h0, zero_add]
  refine congrArg₂ (fun x y : EReal => x + y) (Finset.sum_congr rfl fun t _ => ?_) (Finset.sum_congr rfl fun t _ => ?_)
  · rw [ids1_apply]
  · rw [ids2_apply]

/-! ## The partial sums -/

theorem piece_apply (o : ℕ) (h : o + 16 ≤ 64) (f : Vec Ideal S64 .f32) (x : Fin 16) :
    piece o h f (ix1 x) = f (ix1 ⟨o + x.val, by have := x.isLt; omega⟩) := by
  unfold piece
  congr 1
  funext c
  obtain rfl : c = 0 := Subsingleton.elim _ _
  rfl

/-- Sums over 64 experts, sixteen lanes at a time. -/
theorem sum_lanes (f : Fin 64 → EReal) :
    ∑ x : Fin 16, ((((0 + f ⟨0 + x.val, by have := x.isLt; omega⟩) + f ⟨16 + x.val, by have := x.isLt; omega⟩)
      + f ⟨32 + x.val, by have := x.isLt; omega⟩) + f ⟨48 + x.val, by have := x.isLt; omega⟩) = ∑ e : Fin 64, f e := by
  rw [← Equiv.sum_comp (finProdFinEquiv (m := 4) (n := 16)) f, Fintype.sum_prod_type, Fin.sum_univ_four]
  simp only [zero_add, Finset.sum_add_distrib]
  refine congrArg₂ (fun x y : EReal => x + y) (congrArg₂ (fun x y : EReal => x + y) (congrArg₂ (fun x y : EReal => x + y) ?_ ?_) ?_) ?_
  all_goals
    refine Finset.sum_congr rfl fun x _ => congrArg f (Fin.ext ?_)
    simp only [finProdFinEquiv_apply_val]
    first | rfl | (show _ + x.val = x.val + _; rw [add_comm]; rfl)

theorem tileOut_apply (L : grid1.Coords) (x : Fin 16) :
    (tileOut A1 A2 A3 L (ix1 x) : EReal)
      = (((0 + tileHist A1 A2 L (ix1 ⟨0 + x.val, by have := x.isLt; omega⟩) * sums A3 L (ix1 ⟨0 + x.val, by have := x.isLt; omega⟩))
        + tileHist A1 A2 L (ix1 ⟨16 + x.val, by have := x.isLt; omega⟩) * sums A3 L (ix1 ⟨16 + x.val, by have := x.isLt; omega⟩))
        + tileHist A1 A2 L (ix1 ⟨32 + x.val, by have := x.isLt; omega⟩) * sums A3 L (ix1 ⟨32 + x.val, by have := x.isLt; omega⟩))
        + tileHist A1 A2 L (ix1 ⟨48 + x.val, by have := x.isLt; omega⟩) * sums A3 L (ix1 ⟨48 + x.val, by have := x.isLt; omega⟩) := by
  have h0 : (broadcast S16 (Scalar.ofBits (F := Ideal) .f32 0x00000000#32) (ix1 x) : EReal) = 0 := Ideal.ofBits_zero_f32
  unfold tileOut k1_pay6
  rw [addf_apply, addf_apply, addf_apply, addf_apply, mulf_apply, mulf_apply, mulf_apply, mulf_apply, h0]
  simp only [piece_apply]

/-- A subcore's sixteen partial sums add up to its counts times its batch's score sums. -/
theorem tileOut_sum (h1 : ∀ j : S32768.Idx, (A1 j).toNat < 64) (h2 : ∀ j : S32768.Idx, (A2 j).toNat < 64) (r : Fin 32) :
    ∑ x : Fin 16, (tileOut A1 A2 A3 (rowCoords r) (ix1 x) : EReal)
      = ∑ e : Fin 64, rowCount A1 A2 r e * A3 (ix1 ⟨64 * (r.val / 8) + e.val, by have := e.isLt; have := r.isLt; omega⟩) := by
  simp only [tileOut_apply]
  refine (sum_lanes fun e => (tileHist A1 A2 (rowCoords r) (ix1 e) * sums A3 (rowCoords r) (ix1 e) : EReal)).trans ?_
  refine Finset.sum_congr rfl fun e _ => ?_
  rw [tileHist_apply A1 A2 h1 h2, sums_apply]

/-! ## The combined scalar -/

theorem combine_apply (v : Vec Ideal S32x16 .f32) (j : S1x1.Idx) :
    (k2_pay1 v j : EReal) = (∑ r : Fin 32, ∑ x : Fin 16, v (ix2 r x)) * Ideal.ofBits .f32 0x2A23D70A#32 := by
  unfold k2_pay1
  rw [mulf_apply]
  refine congrArg₂ (fun x y : EReal => x * y) ?_ rfl
  refine (Ideal.multiReduction_add_total (shapeCast S1x32x16 (shapeCast S32x16 v shapeCasts_S32x16_S32x16) shapeCasts_S32x16_S1x32x16)
    0x00000000#32 reduces_S1x32x16_S1 (by decide) (.inl rfl) rfl _).trans ?_
  rw [Idealize.ShloMosaic.sum_idx3, Fin.sum_univ_one]
  refine Finset.sum_congr rfl fun r _ => Finset.sum_congr rfl fun x _ => ?_
  refine (shapeCast_apply _ shapeCasts_S32x16_S1x32x16 _ (ix2 r x) ?_).trans
    (shapeCast_apply v shapeCasts_S32x16_S32x16 (ix2 r x) (ix2 r x) rfl)
  rw [Shape.rowMajor_val_two, Shape.rowMajor_val_three]
  show r.val * 16 + x.val = (0 * 32 + r.val) * 16 + x.val
  omega

/-- The scalar of all the subcores' partial sums. -/
theorem combine_all (h1 : ∀ j : S32768.Idx, (A1 j).toNat < 64) (h2 : ∀ j : S32768.Idx, (A2 j).toNat < 64) (j : S1x1.Idx) :
    (k2_pay1 (scOut A1 A2 A3) j : EReal)
      = (∑ r : Fin 32, ∑ e : Fin 64, rowCount A1 A2 r e * A3 (ix1 ⟨64 * (r.val / 8) + e.val, by have := e.isLt; have := r.isLt; omega⟩))
        * Ideal.ofBits .f32 0x2A23D70A#32 := by
  rw [combine_apply]
  refine congrArg (fun s : EReal => s * Ideal.ofBits .f32 0x2A23D70A#32) (Finset.sum_congr rfl fun r _ => ?_)
  rw [← tileOut_sum A1 A2 A3 h1 h2 r]
  refine Finset.sum_congr rfl fun x _ => ?_
  unfold scOut
  congr 1
  funext a
  obtain rfl : a = 0 := Subsingleton.elim _ _
  rfl

end Cert.Proof.Moe

end
-- ==== Proof.LossSum.lean ====
/-
  The arithmetic of the balance loss over the reals: the subcores' rows, eight to a sequence, against the reference's means.
-/
module

public import proofs.«01_k».proof.Proof.Counts

@[expose] public section

set_option maxRecDepth 16384

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

/-- One where the choice is the expert, nothing elsewhere. -/
def hitR (i e : Fin 64) : ℝ := if i = e then 1 else 0

theorem hit_ofNat (i e : Fin 64) : hit (BitVec.ofNat 32 i.val) e = ((hitR i e : ℝ) : EReal) := by
  have hi := i.isLt
  have hn : (BitVec.ofNat 32 i.val).toNat = i.val := by
    rw [BitVec.toNat_ofNat, Nat.mod_eq_of_lt (by omega)]
  unfold hit hitR
  rw [hn]
  by_cases h : i = e
  · rw [if_pos (congrArg Fin.val h), if_pos h, EReal.coe_one]
  · rw [if_neg (fun hh => h (Fin.ext hh)), if_neg h, EReal.coe_zero]

/-- A token of row `r`: of sequence `r / 8`, the row's chunk of 1024 being the `r % 8`-th. -/
def rowTok (r : Fin 32) (t : Fin 1024) : Fin 8192 := ⟨1024 * (r.val % 8) + t.val, by have := t.isLt; omega⟩
/-- The sequence row `r` belongs to. -/
def rowSeq (r : Fin 32) : Fin 4 := ⟨r.val / 8, by have := r.isLt; omega⟩

/-- A sum over the rows, sequence by sequence. -/
theorem sum_rows (g : Fin 32 → ℝ) :
    ∑ r : Fin 32, g r = ∑ b : Fin 4, ∑ q : Fin 8, g ⟨8 * b.val + q.val, by have := b.isLt; have := q.isLt; omega⟩ := by
  rw [← Equiv.sum_comp (finProdFinEquiv (m := 4) (n := 8)) g, Fintype.sum_prod_type]
  refine Finset.sum_congr rfl fun b _ => Finset.sum_congr rfl fun q _ => congrArg g (Fin.ext ?_)
  show q.val + 8 * b.val = 8 * b.val + q.val
  omega

/-- A sum over a sequence, chunk by chunk. -/
theorem sum_chunks (g : Fin 8192 → ℝ) :
    ∑ q : Fin 8, ∑ t : Fin 1024, g ⟨1024 * q.val + t.val, by have := t.isLt; have := q.isLt; omega⟩ = ∑ n : Fin 8192, g n := by
  rw [← Equiv.sum_comp (finProdFinEquiv (m := 8) (n := 1024)) g, Fintype.sum_prod_type]
  refine Finset.sum_congr rfl fun q _ => Finset.sum_congr rfl fun t _ => congrArg g (Fin.ext ?_)
  show 1024 * q.val + t.val = t.val + 1024 * q.val
  omega

variable (X Y : Fin 4 → Fin 8192 → Fin 64 → ℝ) (P : Fin 4 → Fin 64 → ℝ)

theorem rows_total :
    ∑ r : Fin 32, ∑ e : Fin 64, ((∑ t : Fin 1024, X (rowSeq r) (rowTok r t) e) + ∑ t : Fin 1024, Y (rowSeq r) (rowTok r t) e) * P (rowSeq r) e
      = ∑ b : Fin 4, ∑ e : Fin 64, (∑ n : Fin 8192, (X b n e + Y b n e)) * P b e := by
  rw [sum_rows]
  refine Finset.sum_congr rfl fun b _ => ?_
  rw [Finset.sum_comm]
  refine Finset.sum_congr rfl fun e _ => ?_
  have hs : ∀ q : Fin 8, rowSeq ⟨8 * b.val + q.val, by have := b.isLt; have := q.isLt; omega⟩ = b := fun q =>
    Fin.ext (by show (8 * b.val + q.val) / 8 = b.val; have := q.isLt; omega)
  have ht : ∀ (q : Fin 8) (t : Fin 1024), rowTok ⟨8 * b.val + q.val, by have := b.isLt; have := q.isLt; omega⟩ t
      = ⟨1024 * q.val + t.val, by have := t.isLt; have := q.isLt; omega⟩ := fun q t =>
    Fin.ext (by show 1024 * ((8 * b.val + q.val) % 8) + t.val = 1024 * q.val + t.val; have := q.isLt; omega)
  simp only [hs, ht]
  rw [← Finset.sum_mul, Finset.sum_add_distrib, sum_chunks fun n => X b n e, sum_chunks fun n => Y b n e, Finset.sum_add_distrib]

/-- The kernel's scaled total is the reference's mean of means. -/
theorem loss_arith (Z : Fin 4 → Fin 8192 → Fin 64 → ℝ) (p : Fin 4 → Fin 8192 → Fin 64 → ℝ) :
    (∑ b : Fin 4, ∑ e : Fin 64, (∑ n : Fin 8192, Z b n e) * ∑ n : Fin 8192, p b n e) * (10737418 / 2 ^ 66)
      = (∑ b : Fin 4, 10737418 / 2 ^ 30 * ∑ e : Fin 64, ((∑ n : Fin 8192, 1 / 2 ^ 8 * Z b n e) / 8192) * ((∑ n : Fin 8192, p b n e) / 8192)) / 4 := by
  rw [Finset.sum_div, Finset.sum_mul]
  refine Finset.sum_congr rfl fun b _ => ?_
  rw [Finset.sum_mul, Finset.mul_sum, Finset.sum_div]
  refine Finset.sum_congr rfl fun e _ => ?_
  rw [← Finset.mul_sum]
  ring

/-! ## The constants -/

theorem scale_word : Ideal.ofBits .f32 0x2A23D70A#32 = ((10737418 / 2 ^ 66 : ℝ) : EReal) := by
  simp [Ideal.ofBits, Ideal.ieee, -EReal.coe_mul]
  norm_num

theorem alpha_word : Ideal.ofBits .f32 0x3C23D70A#32 = ((10737418 / 2 ^ 30 : ℝ) : EReal) := by
  simp [Ideal.ofBits, Ideal.ieee, -EReal.coe_mul]
  norm_num

theorem per_choice_word : Ideal.ofBits .f32 0x3B800000#32 = ((1 / 2 ^ 8 : ℝ) : EReal) := by
  simp [Ideal.ofBits, Ideal.ieee, -EReal.coe_mul]
  norm_num

theorem tokens_word : Ideal.ofBits .f32 0x46000000#32 = ((8192 : ℝ) : EReal) := by
  simp [Ideal.ofBits, Ideal.ieee, -EReal.coe_mul]
  norm_num

theorem batch_word : Ideal.ofBits .f32 0x40800000#32 = ((4 : ℝ) : EReal) := by
  simp [Ideal.ofBits, Ideal.ieee, -EReal.coe_mul]
  norm_num

theorem div_coe (a b : ℝ) (hb : b ≠ 0) : Ideal.div (a : EReal) (b : EReal) = ((a / b : ℝ) : EReal) := by
  unfold Ideal.div
  rw [if_neg (by rw [Ne, EReal.coe_eq_zero] at *; exact hb), ← EReal.coe_inv, ← EReal.coe_mul, div_eq_mul_inv]

end Cert.Proof.Moe

end
-- ==== Proof.KernelLoss.lean ====
/-
  The kernel's balance loss over the extended reals, where the scores are real: the scale times, over all sequences and experts,
  the number of choices that name the expert times the sum of the expert's scores.
-/
module

public import proofs.«01_k».proof.Proof.PlaneVals
public import proofs.«01_k».proof.Proof.LossSum

@[expose] public section

set_option maxRecDepth 16384

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

variable (m : (ℓ : Loc nD τ sig) → Buf (Elt Ideal) ℓ) (d : Dev nD)

/-- A token's column of scores. -/
abbrev colAt (b : Fin 4) (n : Fin 8192) : Fin 64 → EReal := tokCol (hidden m d) (router m d) b n

theorem flat_ids (f : S4x1x8192.Idx → BitVec 32) (r : Fin 32) (t : Fin 1024) :
    shapeCast S32768 f shapeCasts_S4x1x8192_S32768 (ix1 ⟨1024 * r.val + t.val, by have := t.isLt; have := r.isLt; omega⟩)
      = f (ix3 (rowSeq r) (0 : Fin 1) (rowTok r t)) := by
  refine shapeCast_apply f _ _ _ ?_
  rw [Shape.rowMajor_val_one, Shape.rowMajor_val_three]
  show (r.val / 8 * 1 + 0) * 8192 + (1024 * (r.val % 8) + t.val) = 1024 * r.val + t.val
  omega

theorem flat_sums (f : S4x64x1.Idx → EReal) (r : Fin 32) (e : Fin 64) :
    shapeCast S256 f shapeCasts_S4x64x1_S256 (ix1 ⟨64 * (r.val / 8) + e.val, by have := e.isLt; have := r.isLt; omega⟩)
      = f (ix3 (rowSeq r) e (0 : Fin 1)) := by
  refine shapeCast_apply f _ _ _ ?_
  rw [Shape.rowMajor_val_one, Shape.rowMajor_val_three]
  show (r.val / 8 * 64 + e.val) * 1 + 0 = 64 * (r.val / 8) + e.val
  omega

theorem small_word (i : Fin 64) : (BitVec.ofNat 32 i.val).toNat < 64 := by
  have hi := i.isLt
  rw [BitVec.toNat_ofNat, Nat.mod_eq_of_lt (by omega)]
  exact hi

/-- The loss the kernel leaves. -/
theorem kernel_loss (p : Fin 4 → Fin 8192 → Fin 64 → ℝ) (hp : ∀ b n e, colAt m d b n e = p b n e) (j : S1x1.Idx) :
    (k2_pay1 (partArr m d) j : EReal)
      = (((∑ b : Fin 4, ∑ e : Fin 64, (∑ n : Fin 8192, (hitR (first (colAt m d b n)) e + hitR (second (colAt m d b n)) e))
          * ∑ n : Fin 8192, p b n e) * (10737418 / 2 ^ 66) : ℝ) : EReal) := by
  have h1 : ∀ j : S32768.Idx, (shapeCast S32768 (place1 m d) shapeCasts_S4x1x8192_S32768 j).toNat < 64 := fun j => small_word _
  have h2 : ∀ j : S32768.Idx, (shapeCast S32768 (place2 m d) shapeCasts_S4x1x8192_S32768 j).toNat < 64 := fun j => small_word _
  unfold partArr
  rw [id1Arr_eq, id2Arr_eq, sumArr_eq, combine_all _ _ _ h1 h2, scale_word,
    ← rows_total (fun b n e => hitR (first (colAt m d b n)) e) (fun b n e => hitR (second (colAt m d b n)) e) fun b e => ∑ n : Fin 8192, p b n e,
    EReal.coe_mul, coe_sum_real]
  refine congrArg (fun s : EReal => s * ((10737418 / 2 ^ 66 : ℝ) : EReal)) (Finset.sum_congr rfl fun r _ => ?_)
  rw [coe_sum_real]
  refine Finset.sum_congr rfl fun e _ => ?_
  rw [EReal.coe_mul, EReal.coe_add, coe_sum_real, coe_sum_real, coe_sum_real, flat_sums]
  refine congrArg₂ (fun x y : EReal => x * y) ?_ ?_
  · unfold rowCount
    refine congrArg₂ (fun x y : EReal => x + y) (Finset.sum_congr rfl fun t _ => ?_) (Finset.sum_congr rfl fun t _ => ?_)
    · rw [flat_ids]
      exact hit_ofNat _ _
    · rw [flat_ids]
      exact hit_ofNat _ _
  · unfold scoreSum
    exact Finset.sum_congr rfl fun n _ => hp _ n _

end Cert.Proof.Moe

end
-- ==== Proof.RefCols.lean ====
/-
  The reference's scores over the extended reals, read at (sequence, token, expert): the reference's softmax of the token's
  column of logits. And its selection of the two best, read at a token: the first two slots of the sorted column.
-/
module

public import proofs.«01_k».proof.Proof.Planes
public import proofs.«01_k».proof.Proof.Gen.ReferenceIdeal.Run
public import Idealize.ShloMosaic.Lib.KernelVsHost

@[expose] public section

set_option maxRecDepth 16384

noncomputable section

namespace Cert.Proof.Moe

open Cert.ReferenceIdeal Cert.ReferenceIdeal.Gen
open Idealize.ShloMosaic hiding ix0 ix1 ix2 ix3 ix4 ix5
open Idealize.ShloMosaic.TcCoe Idealize.ShloMosaic.ValueIdx

/-! ## The pieces of the reference's softmax -/

/-- The reference's logits. -/
def refDot (A : FVec Ideal S4x8192x1024 .f32) (B : FVec Ideal S64x1024 .f32) : FVec Ideal S4x8192x64 .f32 :=
  Host.dotGeneral dot_S4x8192x1024_S64x1024_S4x8192x64_2_1_01_0_n_n none A B

/-- The greatest of every token's column. -/
def tokMax (v : FVec Ideal S4x8192x64 .f32) : FVec Ideal S4x8192 .f32 :=
  Host.reduce FloatOps.maximumf v (constant S_ .f32 0xFF800000#32) reducesTo_S4x8192x64_S4x8192_d2 h_S_

/-- The sum of every token's column. -/
def tokSum (v : FVec Ideal S4x8192x64 .f32) : FVec Ideal S4x8192 .f32 :=
  Host.reduceAdd v (constant S_ .f32 0x00000000#32) reducesTo_S4x8192x64_S4x8192_d2 h_S_

/-- One value for each token, repeated for the 64 experts. -/
def overExperts (v : FVec Ideal S4x8192 .f32) : FVec Ideal S4x8192x64 .f32 :=
  broadcastInDim S4x8192x64 ![0, 1, 2] bcast_S4x8192x1_S4x8192x64_0_1_2 (broadcastInDim S4x8192x1 ![0, 1] bcast_S4x8192_S4x8192x1_0_1 v)

/-- The logits less the token's greatest. -/
def shift1 (A : FVec Ideal S4x8192x1024 .f32) (B : FVec Ideal S64x1024 .f32) : FVec Ideal S4x8192x64 .f32 :=
  subf (refDot A B) (overExperts (tokMax (refDot A B)))

/-- Those less their own greatest, which the softmax takes off once more. -/
def shift2 (A : FVec Ideal S4x8192x1024 .f32) (B : FVec Ideal S64x1024 .f32) : FVec Ideal S4x8192x64 .f32 :=
  subf (shift1 A B) (overExperts (maximumf (broadcastInDim S4x8192 ![] bcast_S_S4x8192 (constant S_ .f32 0xFF800000#32)) (tokMax (shift1 A B))))

/-- The reference's scores. -/
def refScores (A : FVec Ideal S4x8192x1024 .f32) (B : FVec Ideal S64x1024 .f32) : FVec Ideal S4x8192x64 .f32 :=
  Host.divf (Host.exp (shift2 A B)) (overExperts (tokSum (Host.exp (shift2 A B))))

/-! ## Each piece at an index -/

theorem neg_inf : (FloatOps.ofBits .f32 0xFF800000#32 : Ideal .f32) = (⊥ : EReal) := by
  show Ideal.ofBits .f32 0xFF800000#32 = ⊥
  simp [Ideal.ofBits, Ideal.ieee]

theorem tokMax_apply (v : FVec Ideal S4x8192x64 .f32) (b : Fin 4) (n : Fin 8192) : tokMax v (ix2 b n) = top fun e => v (ix3 b n e) := by
  have hr : S4x8192x64.Reduces [2] S4x8192 := by decide
  unfold tokMax
  rw [hostReduce_maximumf_eq_multiReduction v 0xFF800000#32 reducesTo_S4x8192x64_S4x8192_d2 h_S_ hr (.inl rfl) rfl]
  refine (Ideal.multiReduction_maximumf_single v _ hr _ _ (ix2 b n)).trans ?_
  rw [neg_inf]
  unfold top
  congr 1
  funext e
  exact congrArg v (by funext a; match a with | ⟨0, _⟩ => rfl | ⟨1, _⟩ => rfl | ⟨2, _⟩ => rfl)

theorem zero_word : (FloatOps.ofBits .f32 0x00000000#32 : Ideal .f32) = (0 : EReal) := Ideal.ofBits_zero_f32

theorem tokSum_apply (v : FVec Ideal S4x8192x64 .f32) (b : Fin 4) (n : Fin 8192) : tokSum v (ix2 b n) = 0 + ∑ e : Fin 64, v (ix3 b n e) := by
  have hr : S4x8192x64.Reduces [2] S4x8192 := by decide
  unfold tokSum
  refine (Ideal.hostReduceAdd_single reducesTo_S4x8192x64_S4x8192_d2 hr v _ (ix2 b n)).trans ?_
  refine congrArg₂ (fun a b : EReal => a + b) zero_word (Finset.sum_congr rfl fun e _ => ?_)
  exact congrArg v (by funext a; match a with | ⟨0, _⟩ => rfl | ⟨1, _⟩ => rfl | ⟨2, _⟩ => rfl)

theorem overExperts_apply (v : FVec Ideal S4x8192 .f32) (b : Fin 4) (n : Fin 8192) (e : Fin 64) : overExperts v (ix3 b n e) = v (ix2 b n) := by
  unfold overExperts
  refine (broadcastInDim_apply ![0, 1, 2] bcast_S4x8192x1_S4x8192x64_0_1_2 _ (ix3 b n e) (ix3 b n (0 : Fin 1)) fun a => ?_).trans
    (broadcastInDim_apply ![0, 1] bcast_S4x8192_S4x8192x1_0_1 v (ix3 b n (0 : Fin 1)) (ix2 b n) fun a => ?_)
  · match a with
    | ⟨0, _⟩ => rfl
    | ⟨1, _⟩ => rfl
    | ⟨2, _⟩ => rfl
  · match a with
    | ⟨0, _⟩ => rfl
    | ⟨1, _⟩ => rfl

theorem refDot_apply (A : FVec Ideal S4x8192x1024 .f32) (B : FVec Ideal S64x1024 .f32) (b : Fin 4) (n : Fin 8192) (e : Fin 64) :
    refDot A B (ix3 b n e) = tokLogits A B b n e := by
  unfold refDot tokLogits
  simp only [Host.dotGeneral]
  rw [Ideal.dotGeneral_apply]
  have hr : dot_S4x8192x1024_S64x1024_S4x8192x64_2_1_01_0_n_n.contr.rank = 1 := rfl
  have hs : dot_S4x8192x1024_S64x1024_S4x8192x64_2_1_01_0_n_n.contr.size ⟨0, by rw [hr]; exact Nat.one_pos⟩ = 1024 := rfl
  rw [← Equiv.sum_comp (contrEquiv1 _ 1024 hr hs).symm]
  refine Finset.sum_congr rfl fun k _ => ?_
  have hk := contrEquiv1_symm_val _ 1024 hr hs k
  have el : dot_S4x8192x1024_S64x1024_S4x8192x64_2_1_01_0_n_n.lhsIdx (ix3 b n e) ((contrEquiv1 _ 1024 hr hs).symm k) = ix3 b n k := by
    funext a; apply Fin.ext
    match a with
    | ⟨0, _⟩ => rfl
    | ⟨1, _⟩ => rfl
    | ⟨2, _⟩ => exact hk
  have er : dot_S4x8192x1024_S64x1024_S4x8192x64_2_1_01_0_n_n.rhsIdx (ix3 b n e) ((contrEquiv1 _ 1024 hr hs).symm k) = ix2 e k := by
    funext a; apply Fin.ext
    match a with
    | ⟨0, _⟩ => rfl
    | ⟨1, _⟩ => exact hk
  rw [el, er]
  exact mul_comm (G := EReal) _ _

theorem shift1_apply (A : FVec Ideal S4x8192x1024 .f32) (B : FVec Ideal S64x1024 .f32) (b : Fin 4) (n : Fin 8192) (e : Fin 64) :
    shift1 A B (ix3 b n e) = tokLogits A B b n e - top (tokLogits A B b n) := by
  unfold shift1
  rw [subf_apply, overExperts_apply, tokMax_apply, refDot_apply]
  exact congrArg (fun l => tokLogits A B b n e - top l) (funext fun j => refDot_apply A B b n j)

theorem shift2_apply (A : FVec Ideal S4x8192x1024 .f32) (B : FVec Ideal S64x1024 .f32) (b : Fin 4) (n : Fin 8192) (e : Fin 64) :
    shift2 A B (ix3 b n e) = (tokLogits A B b n e - top (tokLogits A B b n))
      - max ⊥ (top fun j => tokLogits A B b n j - top (tokLogits A B b n)) := by
  unfold shift2
  rw [subf_apply, overExperts_apply, maximumf_apply, tokMax_apply, shift1_apply, broadcastInDim_scalar_apply]
  have h : (constant (F := Ideal) S_ .f32 0xFF800000#32 ix0 : EReal) = ⊥ := neg_inf
  rw [h]
  exact congrArg (fun l => (tokLogits A B b n e - top (tokLogits A B b n)) - max ⊥ (top l)) (funext fun j => shift1_apply A B b n j)

theorem refScores_apply (A : FVec Ideal S4x8192x1024 .f32) (B : FVec Ideal S64x1024 .f32) (b : Fin 4) (n : Fin 8192) (e : Fin 64) :
    refScores A B (ix3 b n e) = refSoft (tokLogits A B b n) e := by
  have hE : ∀ j, Host.exp (shift2 A B) (ix3 b n j) = Ideal.exp ((tokLogits A B b n j - top (tokLogits A B b n))
      - max ⊥ (top fun j => tokLogits A B b n j - top (tokLogits A B b n))) := fun j => by
    rw [← shift2_apply]
    rfl
  unfold refScores refSoft
  rw [hostDivf_apply, overExperts_apply, tokSum_apply, hE]
  exact congrArg (fun s => Ideal.div _ (0 + s)) (Finset.sum_congr rfl fun j _ => hE j)

/-! ## The two best of a column -/

/-- How the reference's sort orders two experts of a token. -/
def goesFirst (x : FVec Ideal S4x8192x64 .f32) (b : Fin 4) (n : Fin 8192) (k k' : Fin 64) : Bool :=
  FloatOps.cmpfTotal .gt (x (ix3 b n k)) (x (ix3 b n k')) == 1#1

theorem goesFirst_eq (x : FVec Ideal S4x8192x64 .f32) (b : Fin 4) (n : Fin 8192) (k k' : Fin 64) :
    goesFirst x b n k k' = decide ((x (ix3 b n k') : EReal) < x (ix3 b n k)) := by
  show (BitVec.ofBool (decide ((x (ix3 b n k') : EReal) < x (ix3 b n k))) == 1#1) = _
  cases decide ((x (ix3 b n k') : EReal) < x (ix3 b n k)) <;> rfl

/-- The slot of the sorted column that place `j` of the two reads. -/
def slot (j : Fin 2) : Fin 64 := ⟨j.val, by have := j.isLt; omega⟩

theorem along_eq (b : Fin 4) (n : Fin 8192) (e k : Fin 64) : Shape.Idx.along (s := S4x8192x64) (ix3 b n e) 2 k = ix3 b n k := by
  funext a
  match a with
  | ⟨0, _⟩ => rfl
  | ⟨1, _⟩ => rfl
  | ⟨2, _⟩ => rfl

theorem sliced_eq (b : Fin 4) (n : Fin 8192) (j : Fin 2) :
    (fun a => ⟨0 + (ix3 b n j (a.cast sliceFits_S4x8192x64_S4x8192x2.1.symm)).val,
      Nat.lt_of_lt_of_le (Nat.add_lt_add_left (ix3 b n j _).isLt _) (sliceFits_S4x8192x64_S4x8192x2.2 a)⟩ : S4x8192x64.Idx) = ix3 b n (slot j) := by
  funext a
  apply Fin.ext
  match a with
  | ⟨0, _⟩ => exact Nat.zero_add _
  | ⟨1, _⟩ => exact Nat.zero_add _
  | ⟨2, _⟩ => exact Nat.zero_add _

/-- The sorted values and row numbers of a token's column. -/
theorem sort_apply (x : FVec Ideal S4x8192x64 .f32) (y : IVec S4x8192x64 32) (b : Fin 4) (n : Fin 8192) (e : Fin 64) :
    (Host.sort2 S4x8192x64 2 (fun l r => FloatOps.cmpfTotal .gt l.1 r.1) x y).1 (ix3 b n e) = x (ix3 b n (sortedFrom (goesFirst x b n) e))
    ∧ (Host.sort2 S4x8192x64 2 (fun l r => FloatOps.cmpfTotal .gt l.1 r.1) x y).2 (ix3 b n e) = y (ix3 b n (sortedFrom (goesFirst x b n) e)) := by
  have hd : 2 < S4x8192x64.rank := by decide
  have hπ : sortedFrom (n := 64) (fun k k' => FloatOps.cmpfTotal .gt (x (Shape.Idx.along (s := S4x8192x64) (ix3 b n e) 2 k))
      (x (Shape.Idx.along (s := S4x8192x64) (ix3 b n e) 2 k')) == 1#1) e = sortedFrom (goesFirst x b n) e := by
    congr 1
    funext k k'
    unfold goesFirst
    rw [along_eq, along_eq]
  unfold Host.sort2
  rw [dif_pos hd]
  constructor
  · exact congrArg x ((congrArg (Shape.Idx.along (s := S4x8192x64) (ix3 b n e) 2) hπ).trans (along_eq b n e _))
  · exact congrArg y ((congrArg (Shape.Idx.along (s := S4x8192x64) (ix3 b n e) 2) hπ).trans (along_eq b n e _))

/-- The row numbers that are sorted along with the scores. -/
def expertNo : IVec S4x8192x64 32 := fun i => if hd : 2 < S4x8192x64.rank then iotaInDim S4x8192x64 32 ⟨2, hd⟩ i else 0#32

theorem sliced_apply {α : Type} (f : S4x8192x64.Idx → α) (b : Fin 4) (n : Fin 8192) (j : Fin 2) :
    extractStridedSlice S4x8192x2 (fun _ => 0) f sliceFits_S4x8192x64_S4x8192x2 (ix3 b n j) = f (ix3 b n (slot j)) :=
  congrArg f (sliced_eq b n j)

theorem topValues_apply (x : FVec Ideal S4x8192x64 .f32) (b : Fin 4) (n : Fin 8192) (j : Fin 2) :
    (Host.topK S4x8192x2 2 (FloatOps.cmpfTotal .gt) x sliceFits_S4x8192x64_S4x8192x2).1 (ix3 b n j)
      = x (ix3 b n (sortedFrom (goesFirst x b n) (slot j))) :=
  (sliced_apply (Host.sort2 S4x8192x64 2 (fun l r => FloatOps.cmpfTotal .gt l.1 r.1) x expertNo).1 b n j).trans
    (sort_apply x expertNo b n (slot j)).1

theorem topPlaces_apply (x : FVec Ideal S4x8192x64 .f32) (b : Fin 4) (n : Fin 8192) (j : Fin 2) :
    (Host.topK S4x8192x2 2 (FloatOps.cmpfTotal .gt) x sliceFits_S4x8192x64_S4x8192x2).2 (ix3 b n j)
      = BitVec.ofNat 32 (sortedFrom (goesFirst x b n) (slot j)).val :=
  ((sliced_apply (Host.sort2 S4x8192x64 2 (fun l r => FloatOps.cmpfTotal .gt l.1 r.1) x expertNo).2 b n j).trans
    (sort_apply x expertNo b n (slot j)).2).trans (by
      unfold expertNo
      rw [dif_pos (show 2 < S4x8192x64.rank by decide)]
      exact iotaInDim_apply 32 _ _)

/-! ## At a column of scores that are all at least nothing -/

theorem places_first (x : FVec Ideal S4x8192x64 .f32) (b : Fin 4) (n : Fin 8192) (s : Fin 64 → EReal) (hs : ∀ e, x (ix3 b n e) = s e)
    (h0 : ∀ e, 0 ≤ s e) : sortedFrom (goesFirst x b n) (slot 0) = first s ∧ sortedFrom (goesFirst x b n) (slot 1) = second s := by
  have hR : ∀ k k', goesFirst x b n k k' = decide (s k' < s k) := fun k k' => by rw [goesFirst_eq, hs, hs]
  have h := sorted_places s (goesFirst x b n) hR
  have e1 : sortedFrom (goesFirst x b n) (slot 0) = first s := h.1.unique (first_spec s)
  refine ⟨e1, ?_⟩
  have h2 := h.2
  have e1' : sortedFrom (goesFirst x b n) 0 = first s := e1
  rw [e1'] at h2
  exact h2.unique (second_spec h0)

/-- The best score of a column is that of its first best. -/
theorem top_first (s : Fin 64 → EReal) : top s = s (first s) := top_eq (first_spec s).1

end Cert.Proof.Moe

end
-- ==== Proof.RefLoss.lean ====
/-
  The reference's balance loss over the extended reals, where the scores are real: the mean of means, as a real number.
-/
module

public import proofs.«01_k».proof.Proof.RefCols
public import proofs.«01_k».proof.Proof.LossSum

@[expose] public section

set_option maxRecDepth 16384

noncomputable section

namespace Cert.Proof.Moe

open Cert.ReferenceIdeal Cert.ReferenceIdeal.Gen
open Idealize.ShloMosaic hiding ix0 ix1 ix2 ix3 ix4 ix5
open Idealize.ShloMosaic.TcCoe Idealize.ShloMosaic.ValueIdx

/-! ## The pieces of the reference's loss -/

/-- One where a choice is the expert, nothing elsewhere, for every choice and expert. -/
def oneHot (I : IVec S4x8192x2 32) : FVec Ideal S4x8192x2x64 .f32 :=
  uitofp .f32 (cmpi .eq
    (broadcastInDim S4x8192x2x64 ![0, 1, 2, 3] bcast_S4x8192x2x1_S4x8192x2x64_0_1_2_3
      (broadcastInDim S4x8192x2x1 ![0, 1, 2] bcast_S4x8192x2_S4x8192x2x1_0_1_2 I))
    (broadcastInDim S4x8192x2x64 ![0, 1, 2, 3] bcast_S1x1x1x64_S4x8192x2x64_0_1_2_3 (iotaInDim S1x1x1x64 32 3)))

/-- How many of a token's two choices are the expert. -/
def chosen (I : IVec S4x8192x2 32) : FVec Ideal S4x8192x64 .f32 :=
  Host.reduceAdd (oneHot I) (constant S_ .f32 0x00000000#32) reducesTo_S4x8192x2x64_S4x8192x64_d2 h_S_

/-- The mean over a sequence's tokens. -/
def overTokens (v : FVec Ideal S4x8192x64 .f32) : FVec Ideal S4x64 .f32 :=
  Host.divf (Host.reduceAdd v (constant S_ .f32 0x00000000#32) reducesTo_S4x8192x64_S4x64_d1 h_S_)
    (broadcastInDim S4x64 ![] bcast_S_S4x64 (constant S_ .f32 0x46000000#32))

/-- The share of a sequence's choices that each expert has. -/
def share (I : IVec S4x8192x2 32) : FVec Ideal S4x64 .f32 :=
  overTokens (mulf (broadcastInDim S4x8192x64 ![] bcast_S_S4x8192x64 (constant S_ .f32 0x3B800000#32)) (chosen I))

/-- Each sequence's loss. -/
def seqLoss (I : IVec S4x8192x2 32) (V : FVec Ideal S4x8192x64 .f32) : FVec Ideal S4 .f32 :=
  mulf (broadcastInDim S4 ![] bcast_S_S4 (constant S_ .f32 0x3C23D70A#32))
    (Host.reduceAdd (mulf (share I) (overTokens V)) (constant S_ .f32 0x00000000#32) reducesTo_S4x64_S4_d1 h_S_)

/-- The loss. -/
def refLoss (I : IVec S4x8192x2 32) (V : FVec Ideal S4x8192x64 .f32) : FVec Ideal S_ .f32 :=
  Host.divf (Host.reduceAdd (seqLoss I V) (constant S_ .f32 0x00000000#32) reducesTo_S4_S_d0 h_S_) (constant S_ .f32 0x40800000#32)

/-! ## Each piece at an index -/

theorem oneHot_apply (I : IVec S4x8192x2 32) (b : Fin 4) (n : Fin 8192) (k : Fin 2) (e i : Fin 64)
    (hi : I (ix3 b n k) = BitVec.ofNat 32 i.val) : (oneHot I (ix4 b n k e) : EReal) = ((hitR i e : ℝ) : EReal) := by
  have e1 : broadcastInDim S4x8192x2x64 ![0, 1, 2, 3] bcast_S4x8192x2x1_S4x8192x2x64_0_1_2_3
      (broadcastInDim S4x8192x2x1 ![0, 1, 2] bcast_S4x8192x2_S4x8192x2x1_0_1_2 I) (ix4 b n k e) = I (ix3 b n k) := by
    refine (broadcastInDim_apply ![0, 1, 2, 3] bcast_S4x8192x2x1_S4x8192x2x64_0_1_2_3 _ (ix4 b n k e) (ix4 b n k (0 : Fin 1)) fun a => ?_).trans
      (broadcastInDim_apply ![0, 1, 2] bcast_S4x8192x2_S4x8192x2x1_0_1_2 I (ix4 b n k (0 : Fin 1)) (ix3 b n k) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  have e2 : broadcastInDim S4x8192x2x64 ![0, 1, 2, 3] bcast_S1x1x1x64_S4x8192x2x64_0_1_2_3 (iotaInDim S1x1x1x64 32 3) (ix4 b n k e)
      = BitVec.ofNat 32 e.val := by
    refine (broadcastInDim_apply ![0, 1, 2, 3] bcast_S1x1x1x64_S4x8192x2x64_0_1_2_3 _ (ix4 b n k e)
      (ix4 (0 : Fin 1) (0 : Fin 1) (0 : Fin 1) e) fun a => ?_).trans (iotaInDim_apply 32 _ _)
    match a with
    | ⟨0, _⟩ => rfl
    | ⟨1, _⟩ => rfl
    | ⟨2, _⟩ => rfl
    | ⟨3, _⟩ => rfl
  have hb : cmpi .eq
      (broadcastInDim S4x8192x2x64 ![0, 1, 2, 3] bcast_S4x8192x2x1_S4x8192x2x64_0_1_2_3
        (broadcastInDim S4x8192x2x1 ![0, 1, 2] bcast_S4x8192x2_S4x8192x2x1_0_1_2 I))
      (broadcastInDim S4x8192x2x64 ![0, 1, 2, 3] bcast_S1x1x1x64_S4x8192x2x64_0_1_2_3 (iotaInDim S1x1x1x64 32 3)) (ix4 b n k e)
        = BitVec.ofBool (BitVec.ofNat 32 i.val == BitVec.ofNat 32 e.val) := by
    rw [← hi, ← e1, ← e2]
    rfl
  have hv : (oneHot I (ix4 b n k e) : EReal) = (((BitVec.ofBool (BitVec.ofNat 32 i.val == BitVec.ofNat 32 e.val)).toNat : ℝ) : EReal) := by
    rw [← hb]
    rfl
  rw [hv]
  unfold hitR
  have hil := i.isLt
  have hel := e.isLt
  by_cases h : i = e
  · rw [if_pos h, h]
    simp
  · have hne : (BitVec.ofNat 32 i.val == BitVec.ofNat 32 e.val) = false := by
      rw [beq_eq_false_iff_ne]
      intro hh
      have := congrArg BitVec.toNat hh
      rw [BitVec.toNat_ofNat, BitVec.toNat_ofNat, Nat.mod_eq_of_lt (by omega), Nat.mod_eq_of_lt (by omega)] at this
      exact h (Fin.ext this)
    rw [if_neg h, hne]
    simp

theorem chosen_apply (I : IVec S4x8192x2 32) (b : Fin 4) (n : Fin 8192) (e i i' : Fin 64)
    (hi : I (ix3 b n 0) = BitVec.ofNat 32 i.val) (hi' : I (ix3 b n 1) = BitVec.ofNat 32 i'.val) :
    (chosen I (ix3 b n e) : EReal) = ((hitR i e + hitR i' e : ℝ) : EReal) := by
  have hr : S4x8192x2x64.Reduces [2] S4x8192x64 := by decide
  have hl : ∀ k : Fin 2, hr.lift (ix3 b n e) k = ix4 b n k e := fun k => by
    funext a; match a with | ⟨0, _⟩ => rfl | ⟨1, _⟩ => rfl | ⟨2, _⟩ => rfl | ⟨3, _⟩ => rfl
  unfold chosen
  refine (Ideal.hostReduceAdd_single reducesTo_S4x8192x2x64_S4x8192x64_d2 hr (oneHot I) _ (ix3 b n e)).trans ?_
  refine (congrArg₂ (fun x y : EReal => x + y) zero_word (Fin.sum_univ_two fun k : Fin 2 => (oneHot I (hr.lift (ix3 b n e) k) : EReal))).trans ?_
  rw [zero_add, hl, hl, oneHot_apply I b n 0 e i hi, oneHot_apply I b n 1 e i' hi', EReal.coe_add]

theorem overTokens_apply (v : FVec Ideal S4x8192x64 .f32) (b : Fin 4) (e : Fin 64) (x : Fin 8192 → ℝ) (hx : ∀ n, (v (ix3 b n e) : EReal) = x n) :
    (overTokens v (ix2 b e) : EReal) = (((∑ n : Fin 8192, x n) / 8192 : ℝ) : EReal) := by
  have hr : S4x8192x64.Reduces [1] S4x64 := by decide
  have hl : ∀ n : Fin 8192, hr.lift (ix2 b e) n = ix3 b n e := fun n => by
    funext a; match a with | ⟨0, _⟩ => rfl | ⟨1, _⟩ => rfl | ⟨2, _⟩ => rfl
  have hs : (Host.reduceAdd v (constant S_ .f32 0x00000000#32) reducesTo_S4x8192x64_S4x64_d1 h_S_ (ix2 b e) : EReal)
      = ((∑ n : Fin 8192, x n : ℝ) : EReal) := by
    refine (Ideal.hostReduceAdd_single reducesTo_S4x8192x64_S4x64_d1 hr v _ (ix2 b e)).trans ?_
    rw [coe_sum_real]
    refine (congrArg₂ (fun x y : EReal => x + y) zero_word (Finset.sum_congr rfl fun (n : Fin 8192) _ => ?_)).trans (zero_add _)
    exact (congrArg v (hl n)).trans (hx n)
  unfold overTokens
  rw [hostDivf_apply, hs, broadcastInDim_scalar_apply, ← div_coe _ _ (by norm_num)]
  exact congrArg (Ideal.div _) tokens_word

theorem share_apply (I : IVec S4x8192x2 32) (b : Fin 4) (e : Fin 64) (i i' : Fin 8192 → Fin 64)
    (hi : ∀ n, I (ix3 b n 0) = BitVec.ofNat 32 (i n).val) (hi' : ∀ n, I (ix3 b n 1) = BitVec.ofNat 32 (i' n).val) :
    (share I (ix2 b e) : EReal) = (((∑ n : Fin 8192, 1 / 2 ^ 8 * (hitR (i n) e + hitR (i' n) e)) / 8192 : ℝ) : EReal) := by
  unfold share
  refine overTokens_apply _ b e _ fun n => ?_
  rw [mulf_apply, chosen_apply I b n e (i n) (i' n) (hi n) (hi' n), broadcastInDim_scalar_apply, EReal.coe_mul]
  exact congrArg (fun x : EReal => x * _) per_choice_word

theorem seqLoss_apply (I : IVec S4x8192x2 32) (V : FVec Ideal S4x8192x64 .f32) (b : Fin 4) (i i' : Fin 8192 → Fin 64) (p : Fin 8192 → Fin 64 → ℝ)
    (hi : ∀ n, I (ix3 b n 0) = BitVec.ofNat 32 (i n).val) (hi' : ∀ n, I (ix3 b n 1) = BitVec.ofNat 32 (i' n).val)
    (hp : ∀ n e, (V (ix3 b n e) : EReal) = p n e) :
    (seqLoss I V (ix1 b) : EReal) = ((10737418 / 2 ^ 30 * ∑ e : Fin 64, ((∑ n : Fin 8192, 1 / 2 ^ 8 * (hitR (i n) e + hitR (i' n) e)) / 8192)
      * ((∑ n : Fin 8192, p n e) / 8192) : ℝ) : EReal) := by
  have hr : S4x64.Reduces [1] S4 := by decide
  have hl : ∀ e : Fin 64, hr.lift (ix1 b) e = ix2 b e := fun e => by
    funext a; match a with | ⟨0, _⟩ => rfl | ⟨1, _⟩ => rfl
  unfold seqLoss
  rw [mulf_apply, broadcastInDim_scalar_apply, EReal.coe_mul]
  refine congrArg₂ (fun x y : EReal => x * y) alpha_word ?_
  refine (Ideal.hostReduceAdd_single reducesTo_S4x64_S4_d1 hr (mulf (share I) (overTokens V)) _ (ix1 b)).trans ?_
  rw [coe_sum_real]
  refine (congrArg₂ (fun x y : EReal => x + y) zero_word (Finset.sum_congr rfl fun (e : Fin 64) _ => ?_)).trans (zero_add _)
  refine (congrArg (mulf (share I) (overTokens V)) (hl e)).trans ?_
  rw [mulf_apply, share_apply I b e i i' hi hi', overTokens_apply V b e _ fun n => hp n e, EReal.coe_mul]

/-- The loss the reference leaves. -/
theorem refLoss_apply (I : IVec S4x8192x2 32) (V : FVec Ideal S4x8192x64 .f32) (i i' : Fin 4 → Fin 8192 → Fin 64) (p : Fin 4 → Fin 8192 → Fin 64 → ℝ)
    (hi : ∀ b n, I (ix3 b n 0) = BitVec.ofNat 32 (i b n).val) (hi' : ∀ b n, I (ix3 b n 1) = BitVec.ofNat 32 (i' b n).val)
    (hp : ∀ b n e, (V (ix3 b n e) : EReal) = p b n e) (j : S_.Idx) :
    (refLoss I V j : EReal) = (((∑ b : Fin 4, 10737418 / 2 ^ 30 * ∑ e : Fin 64, ((∑ n : Fin 8192, 1 / 2 ^ 8 * (hitR (i b n) e + hitR (i' b n) e)) / 8192)
      * ((∑ n : Fin 8192, p b n e) / 8192)) / 4 : ℝ) : EReal) := by
  unfold refLoss
  rw [hostDivf_apply, ← div_coe _ _ (by norm_num)]
  refine congrArg₂ Ideal.div ?_ batch_word
  refine (Ideal.hostReduceAdd_total reducesTo_S4_S_d0 (fun b => b.elim0) (seqLoss I V) _ j).trans ?_
  rw [coe_sum_real, Idealize.ShloMosaic.sum_idx1]
  refine (congrArg₂ (fun x y : EReal => x + y) zero_word (Finset.sum_congr rfl fun (b : Fin 4) _ => ?_)).trans (zero_add _)
  exact seqLoss_apply I V b (i b) (i' b) (p b) (hi b) (hi' b) (hp b)

/-! ## The reference's run names these -/

variable (m : (ℓ : Loc nD τ sig) → Buf (Elt Ideal) ℓ) (c : Dev nD)

/-- The reference's scores on device `c`. -/
def scoresAt : FVec Ideal S4x8192x64 .f32 := refScores (m (c.tc.loc main_arg0)) (m (c.tc.loc main_arg1))

theorem loss_name : Cert.ReferenceIdeal.Value.res_main_v31 m c
    = refLoss (Host.topK S4x8192x2 2 (FloatOps.cmpfTotal .gt) (scoresAt m c) sliceFits_S4x8192x64_S4x8192x2).2 (scoresAt m c) := by
  unfold Cert.ReferenceIdeal.Value.res_main_v31
  rfl

end Cert.Proof.Moe

end
-- ==== Proof.RefResults.lean ====
/-
  The reference's three results over the extended reals, where the arguments are real: the places and the scores of each token's
  two best experts, and the balance loss.
-/
module

public import proofs.«01_k».proof.Proof.RefLoss

@[expose] public section

set_option maxRecDepth 16384

noncomputable section

namespace Cert.Proof.Moe

open Cert.ReferenceIdeal Cert.ReferenceIdeal.Gen
open Idealize.ShloMosaic hiding ix0 ix1 ix2 ix3 ix4 ix5
open Idealize.ShloMosaic.TcCoe Idealize.ShloMosaic.ValueIdx

variable (A : FVec Ideal S4x8192x1024 .f32) (B : FVec Ideal S64x1024 .f32)
  (hA : ∀ i, ∃ r : ℝ, A i = (r : EReal)) (hB : ∀ i, ∃ r : ℝ, B i = (r : EReal))

include hA hB

/-- The logits are real. -/
theorem logits_real (b : Fin 4) (n : Fin 8192) (e : Fin 64) : ∃ r : ℝ, tokLogits A B b n e = r := by
  unfold tokLogits
  exact dot_real _ _ (fun k => hB _) (fun k => hA _)

/-- So are the scores, and none is below zero. -/
theorem col_real (b : Fin 4) (n : Fin 8192) (e : Fin 64) : ∃ p : ℝ, 0 ≤ p ∧ tokCol A B b n e = p :=
  soft_real (logits_real A B hA hB b n) e

theorem col_nonneg (b : Fin 4) (n : Fin 8192) (e : Fin 64) : 0 ≤ tokCol A B b n e := by
  obtain ⟨p, h0, hp⟩ := col_real A B hA hB b n e
  rw [hp]
  exact_mod_cast h0

/-- The reference's scores are the kernel's. -/
theorem refScores_col (b : Fin 4) (n : Fin 8192) (e : Fin 64) : (refScores A B (ix3 b n e) : EReal) = tokCol A B b n e :=
  (refScores_apply A B b n e).trans (refSoft_eq (logits_real A B hA hB b n) e)

theorem refPlaces (b : Fin 4) (n : Fin 8192) :
    (Host.topK S4x8192x2 2 (FloatOps.cmpfTotal .gt) (refScores A B) sliceFits_S4x8192x64_S4x8192x2).2 (ix3 b n 0)
        = BitVec.ofNat 32 (first (tokCol A B b n)).val
    ∧ (Host.topK S4x8192x2 2 (FloatOps.cmpfTotal .gt) (refScores A B) sliceFits_S4x8192x64_S4x8192x2).2 (ix3 b n 1)
        = BitVec.ofNat 32 (second (tokCol A B b n)).val := by
  have h := places_first (refScores A B) b n (tokCol A B b n) (refScores_col A B hA hB b n) (col_nonneg A B hA hB b n)
  rw [topPlaces_apply, topPlaces_apply, h.1, h.2]
  exact ⟨rfl, rfl⟩

theorem refValues (b : Fin 4) (n : Fin 8192) :
    ((Host.topK S4x8192x2 2 (FloatOps.cmpfTotal .gt) (refScores A B) sliceFits_S4x8192x64_S4x8192x2).1 (ix3 b n 0) : EReal)
        = top (tokCol A B b n)
    ∧ ((Host.topK S4x8192x2 2 (FloatOps.cmpfTotal .gt) (refScores A B) sliceFits_S4x8192x64_S4x8192x2).1 (ix3 b n 1) : EReal)
        = top (blot (tokCol A B b n) (first (tokCol A B b n))) := by
  have h := places_first (refScores A B) b n (tokCol A B b n) (refScores_col A B hA hB b n) (col_nonneg A B hA hB b n)
  have h2 : blot (tokCol A B b n) (first (tokCol A B b n)) (second (tokCol A B b n)) = tokCol A B b n (second (tokCol A B b n)) :=
    if_neg (second_spec (col_nonneg A B hA hB b n)).1
  rw [topValues_apply, topValues_apply, h.1, h.2, refScores_col A B hA hB, refScores_col A B hA hB, top_first (tokCol A B b n),
    top_first (blot (tokCol A B b n) (first (tokCol A B b n)))]
  exact ⟨rfl, h2.symm⟩

/-- The loss, as the kernel adds it up. -/
theorem refLoss_total (p : Fin 4 → Fin 8192 → Fin 64 → ℝ) (hp : ∀ b n e, tokCol A B b n e = p b n e) (j : S_.Idx) :
    (refLoss (Host.topK S4x8192x2 2 (FloatOps.cmpfTotal .gt) (refScores A B) sliceFits_S4x8192x64_S4x8192x2).2 (refScores A B) j : EReal)
      = (((∑ b : Fin 4, ∑ e : Fin 64, (∑ n : Fin 8192, (hitR (first (tokCol A B b n)) e + hitR (second (tokCol A B b n)) e))
          * ∑ n : Fin 8192, p b n e) * (10737418 / 2 ^ 66) : ℝ) : EReal) := by
  rw [loss_arith (fun b n e => hitR (first (tokCol A B b n)) e + hitR (second (tokCol A B b n)) e) p]
  exact refLoss_apply _ _ (fun b n => first (tokCol A B b n)) (fun b n => second (tokCol A B b n)) p
    (fun b n => (refPlaces A B hA hB b n).1) (fun b n => (refPlaces A B hA hB b n).2)
    (fun b n e => (refScores_col A B hA hB b n e).trans (hp b n e)) j

end Cert.Proof.Moe

end
-- ==== Proof.Finite.lean ====
/-
  What the precondition says of the arguments over the extended reals: every one is a real number.
-/
module

public import proofs.«01_k».proof.Defs
public import proofs.«01_k».proof.Proof.Gen.Pre_finite
public import Idealize.ShloMosaic.Lib.ReduceAll
public import Idealize.ShloMosaic.Lib.KernelVsHost
public import proofs.«01_k».proof.Proof.RefLoss

@[expose] public section

set_option maxRecDepth 16384

noncomputable section

namespace Cert.Proof.Moe

open Idealize.ShloMosaic hiding ix0 ix1 ix2 ix3 ix4 ix5
open Idealize.ShloMosaic.TcCoe Idealize.ShloMosaic.ValueIdx

/-- A number whose magnitude is below infinity is real. -/
theorem real_of_abs {x : EReal} (h : max x (-x) < ⊤) : ∃ r : ℝ, x = r := by
  induction x using EReal.rec with
  | bot => simp at h
  | coe r => exact ⟨r, rfl⟩
  | top => simp at h

theorem infinity_word : Ideal.ofBits .f32 0x7F800000#32 = ⊤ := by
  simp [Ideal.ofBits, Ideal.ieee]

/-- Where the precondition's word is one, every argument is a real number. -/
theorem fn_real (A : FVec Ideal Cert.Pre_finite.S4x8192x1024 .f32) (B : FVec Ideal Cert.Pre_finite.S64x1024 .f32)
    (h : Cert.Pre_finite.fn (F := Ideal) A B = fun _ => 1#1) : (∀ i, ∃ r : ℝ, A i = (r : EReal)) ∧ ∀ i, ∃ r : ℝ, B i = (r : EReal) := by
  have h0 := congrFun h ix0
  obtain ⟨hA, hB⟩ := IntOp.andi_eq_one.1 (show IntOp.andi
      (Host.reduce IntOp.andi (cmpf .olt (Host.absf A) (broadcastInDim Cert.Pre_finite.S4x8192x1024 ![] Cert.Pre_finite.Facts.bcast_S_S4x8192x1024
        (constant Cert.Pre_finite.S_ .f32 0x7F800000#32))) (constantI Cert.Pre_finite.S_ 1 1#1)
        Cert.Pre_finite.Facts.reducesTo_S4x8192x1024_S_d0_1_2 Cert.Pre_finite.Facts.h_S_ ix0)
      (Host.reduce IntOp.andi (cmpf .olt (Host.absf B) (broadcastInDim Cert.Pre_finite.S64x1024 ![] Cert.Pre_finite.Facts.bcast_S_S64x1024
        (constant Cert.Pre_finite.S_ .f32 0x7F800000#32))) (constantI Cert.Pre_finite.S_ 1 1#1)
        Cert.Pre_finite.Facts.reducesTo_S64x1024_S_d0_1 Cert.Pre_finite.Facts.h_S_ ix0) = 1#1 from h0)
  haveI : Subsingleton Cert.Pre_finite.S_.Idx := ⟨fun a b => funext fun k => k.elim0⟩
  have bit : ∀ x y : EReal, BitVec.ofBool (decide (x < y)) = 1#1 → x < y := fun x y hxy => by
    by_contra hn
    rw [decide_eq_false hn] at hxy
    exact absurd hxy (by decide)
  refine ⟨fun i => real_of_abs ?_, fun i => real_of_abs ?_⟩
  · have hi := Host.reduce_andi_all _ _ _ _ ix0 hA i
    rw [← infinity_word]
    exact bit _ _ hi
  · have hi := Host.reduce_andi_all _ _ _ _ ix0 hB i
    rw [← infinity_word]
    exact bit _ _ hi

end Cert.Proof.Moe

end
-- ==== Proof.Value.lean ====
/-
  The value claim: over the extended reals, where the arguments are finite, the kernel's three results are the reference's.
-/
module

public import proofs.«01_k».proof.Proof.Frames
public import proofs.«01_k».proof.Proof.KernelLoss
public import proofs.«01_k».proof.Proof.RefResults
public import proofs.«01_k».proof.Proof.Finite

@[expose] public section

set_option maxRecDepth 16384

noncomputable section

namespace Cert.Proof.Moe

open Cert.KernelIdeal Cert.KernelIdeal.Gen

open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.BI.BIBase Idealize.SL.Sem

/-! ## The two planes side by side -/

theorem column_apply {α : Type} (y : S4x8192.Idx → α) (b : Fin 4) (n : Fin 8192) :
    broadcastInDim S4x8192x1 ![0, 1] bcast_S4x8192_S4x8192x1_0_1 y (ix3 b n (0 : Fin 1)) = y (ix2 b n) := by
  apply broadcastInDim_apply
  intro c
  match c with
  | ⟨0, _⟩ => rfl
  | ⟨1, _⟩ => rfl

theorem flat_apply {α : Type} (a : S4x1x8192.Idx → α) (b : Fin 4) (n : Fin 8192) :
    shapeCast S4x8192 a shapeCasts_S4x1x8192_S4x8192 (ix2 b n) = a (ix3 b (0 : Fin 1) n) := by
  apply shapeCast_apply
  rw [Shape.rowMajor_val_two, Shape.rowMajor_val_three]
  show (b.val * 1 + 0) * 8192 + n.val = b.val * 8192 + n.val
  omega

theorem plane_apply {α : Type} (a : S4x1x8192.Idx → α) (b : Fin 4) (n : Fin 8192) :
    broadcastInDim S4x8192x1 ![0, 1] bcast_S4x8192_S4x8192x1_0_1 (shapeCast S4x8192 a shapeCasts_S4x1x8192_S4x8192) (ix3 b n (0 : Fin 1))
      = a (ix3 b (0 : Fin 1) n) :=
  (column_apply _ b n).trans (flat_apply a b n)

theorem sideBySide_left {α : Type} (a a' : S4x1x8192.Idx → α) (b : Fin 4) (n : Fin 8192) :
    sideBySide a a' (ix3 b n 0) = a (ix3 b (0 : Fin 1) n) := by
  unfold sideBySide
  refine (concatenate_pair_apply_left 2 _ _ concatenates_S4x8192x1_S4x8192x1_S4x8192x2_d2 (ix3 b n 0) rfl (ix3 b n (0 : Fin 1)) fun c => ?_).trans
    (plane_apply a b n)
  match c with
  | ⟨0, _⟩ => rfl
  | ⟨1, _⟩ => rfl
  | ⟨2, _⟩ => rfl

theorem sideBySide_right {α : Type} (a a' : S4x1x8192.Idx → α) (b : Fin 4) (n : Fin 8192) :
    sideBySide a a' (ix3 b n 1) = a' (ix3 b (0 : Fin 1) n) := by
  unfold sideBySide
  refine (concatenate_pair_apply_right 2 _ _ concatenates_S4x8192x1_S4x8192x1_S4x8192x2_d2 (ix3 b n 1) rfl rfl (ix3 b n (0 : Fin 1))
    (fun c hc => ?_) rfl).trans (plane_apply a' b n)
  match c with
  | ⟨0, _⟩ => rfl
  | ⟨1, _⟩ => rfl
  | ⟨2, _⟩ => exact absurd rfl hc

/-- An array of two slots for each token is two planes side by side where its slots are the planes. -/
theorem eq_sideBySide {α : Type} (f : S4x8192x2.Idx → α) (a a' : S4x1x8192.Idx → α) (h0 : ∀ b n, f (ix3 b n 0) = a (ix3 b (0 : Fin 1) n))
    (h1 : ∀ b n, f (ix3 b n 1) = a' (ix3 b (0 : Fin 1) n)) : f = sideBySide a a' := by
  funext i
  obtain ⟨b, n, k, rfl⟩ : ∃ (b : Fin 4) (n : Fin 8192) (k : Fin 2), i = ix3 b n k := ⟨i 0, i 1, i 2, ValueIdx.eq_ix3 i⟩
  match k with
  | ⟨0, _⟩ => exact (h0 b n).trans (sideBySide_left a a' b n).symm
  | ⟨1, _⟩ => exact (h1 b n).trans (sideBySide_right a a' b n).symm

/-! ## The three results -/

variable (m : (ℓ : Loc nD τ sig) → Buf (Elt Ideal) ℓ) (d : Dev nD)
  (hA : ∀ i, ∃ r : ℝ, hidden m d i = (r : EReal)) (hB : ∀ i, ∃ r : ℝ, router m d i = (r : EReal))

include hA hB

theorem places_agree :
    (Host.topK Cert.ReferenceIdeal.S4x8192x2 2 (FloatOps.cmpfTotal .gt) (refScores (hidden m d) (router m d))
      Cert.ReferenceIdeal.Gen.sliceFits_S4x8192x64_S4x8192x2).2 = sideBySide (id1Arr m d) (id2Arr m d) := by
  rw [id1Arr_eq, id2Arr_eq]
  exact eq_sideBySide _ _ _ (fun b n => (refPlaces _ _ hA hB b n).1) (fun b n => (refPlaces _ _ hA hB b n).2)

theorem scores_agree :
    (Host.topK Cert.ReferenceIdeal.S4x8192x2 2 (FloatOps.cmpfTotal .gt) (refScores (hidden m d) (router m d))
      Cert.ReferenceIdeal.Gen.sliceFits_S4x8192x64_S4x8192x2).1 = sideBySide (w1Arr m d) (w2Arr m d) := by
  rw [w1Arr_eq, w2Arr_eq]
  exact eq_sideBySide _ _ _ (fun b n => (refValues _ _ hA hB b n).1) (fun b n => (refValues _ _ hA hB b n).2)

theorem loss_agree :
    refLoss (Host.topK Cert.ReferenceIdeal.S4x8192x2 2 (FloatOps.cmpfTotal .gt) (refScores (hidden m d) (router m d))
      Cert.ReferenceIdeal.Gen.sliceFits_S4x8192x64_S4x8192x2).2 (refScores (hidden m d) (router m d))
      = shapeCast S_ (k2_pay1 (partArr m d)) shapeCasts_S1x1_S_ := by
  choose p hp0 hp using col_real (hidden m d) (router m d) hA hB
  funext j
  refine (refLoss_total _ _ hA hB p hp j).trans ?_
  exact (kernel_loss m d p hp _).symm

omit hA hB

/-! ## The claim -/

/-- Where the arguments are finite, the kernel and the reference end with the same places, the same scores and the same loss. -/
theorem values_agree : Cert.algebraic_KernelIdeal_ReferenceIdeal_pre_finite := by
  intro m g m' g' hpre hagree
  have hreal := fun c : Dev nD => fn_real (hidden m c) (router m c) (hpre c)
  refine ⟨fun c => sideBySide (id1Arr m c) (id2Arr m c), fun c => sideBySide (w1Arr m c) (w2Arr m c),
    fun c => shapeCast S_ (k2_pay1 (partArr m c)) shapeCasts_S1x1_S_, ?_, ?_⟩
  · exact (θ_run _ _ _).mono (fun r h c => h.1 c) (run_ends m g)
  · refine (θ_run _ _ _).mono (fun r h c => ?_) (Cert.ReferenceIdeal.Value.run m' g')
    have e : scoresAt m' c = refScores (hidden m c) (router m c) :=
      (congrArg (fun A => refScores A _) (hagree c).1).trans (congrArg (fun B => refScores _ B) (hagree c).2)
    obtain ⟨h1, h2, h3, h4⟩ := h c
    refine ⟨h1.trans ?_, h2.trans ?_, h3.trans ?_, h4⟩
    · exact (congrArg (fun x => (Host.topK Cert.ReferenceIdeal.S4x8192x2 2 (FloatOps.cmpfTotal .gt) x
        Cert.ReferenceIdeal.Gen.sliceFits_S4x8192x64_S4x8192x2).2) e).trans (places_agree m c (hreal c).1 (hreal c).2)
    · exact (congrArg (fun x => (Host.topK Cert.ReferenceIdeal.S4x8192x2 2 (FloatOps.cmpfTotal .gt) x
        Cert.ReferenceIdeal.Gen.sliceFits_S4x8192x64_S4x8192x2).1) e).trans (scores_agree m c (hreal c).1 (hreal c).2)
    · exact (loss_name m' c).trans ((congrArg (fun x => refLoss (Host.topK Cert.ReferenceIdeal.S4x8192x2 2 (FloatOps.cmpfTotal .gt) x
        Cert.ReferenceIdeal.Gen.sliceFits_S4x8192x64_S4x8192x2).2 x) e).trans (loss_agree m c (hreal c).1 (hreal c).2))

end Cert.Proof.Moe

end
-- ==== Proof.lean ====
/- The claims, put together from the modules under Proof/. -/
module

public import proofs.«01_k».proof.Defs
public import proofs.«01_k».proof.Proof.Frames
public import proofs.«01_k».proof.Proof.Value
public import proofs.«01_k».proof.Proof.Gen.Pre_finite

@[expose] public section

noncomputable section

namespace Cert.Proof

/-- Everything claimed: the frames of the three programs, the step between the two readings of the kernel, and the kernel's
    three results equal to the reference's over the extended reals. -/
theorem claim : Cert.Claim :=
  ⟨Cert.Kernel.Gen.facts, Cert.KernelIdeal.Gen.facts, Cert.ReferenceIdeal.Gen.facts, Cert.Pre_finite.Gen.facts,
    Cert.Proof.Moe.frame_bits, Cert.Proof.Moe.frame_ideal, fun m g _ => Cert.Proof.Moe.frame_ideal m g trivial,
    Cert.Proof.Moe.frame_ref, fun m g _ => Cert.Proof.Moe.frame_ref m g trivial, trivial, Cert.Proof.Moe.values_agree⟩

end Cert.Proof

end
